-- ==== Defs.lean ====
def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackReferenceIdeal (m : (ℓ : Loc Cert.BackReferenceIdeal.nD Cert.BackReferenceIdeal.τ Cert.BackReferenceIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontReferenceIdeal (m : (ℓ : Loc Cert.FrontReferenceIdeal.nD Cert.FrontReferenceIdeal.τ Cert.FrontReferenceIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressReferenceIdeal (m : (ℓ : Loc Cert.CompressReferenceIdeal.nD Cert.CompressReferenceIdeal.τ Cert.CompressReferenceIdeal.sig) → Buf (Elt Ideal) ℓ) : Prop :=
  True

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4)
      ∧ r.2.mem ((c.tc : Thread Cert.Back.nD Cert.Back.τ).loc Cert.Back.main_arg5) = m ((c.tc : Thread Cert.Back.nD Cert.Back.τ).loc Cert.Back.main_arg5)
      ∧ r.2.mem ((c.tc : Thread Cert.Back.nD Cert.Back.τ).loc Cert.Back.main_arg6) = m ((c.tc : Thread Cert.Back.nD Cert.Back.τ).loc Cert.Back.main_arg6)
      ∧ r.2.mem ((c.tc : Thread Cert.Back.nD Cert.Back.τ).loc Cert.Back.main_arg7) = m ((c.tc : Thread Cert.Back.nD Cert.Back.τ).loc Cert.Back.main_arg7)
      ∧ r.2.mem ((c.tc : Thread Cert.Back.nD Cert.Back.τ).loc Cert.Back.main_arg8) = m ((c.tc : Thread Cert.Back.nD Cert.Back.τ).loc Cert.Back.main_arg8)
      ∧ r.2.mem ((c.tc : Thread Cert.Back.nD Cert.Back.τ).loc Cert.Back.main_arg9) = m ((c.tc : Thread Cert.Back.nD Cert.Back.τ).loc Cert.Back.main_arg9)
      ∧ r.2.mem ((c.tc : Thread Cert.Back.nD Cert.Back.τ).loc Cert.Back.main_arg10) = m ((c.tc : Thread Cert.Back.nD Cert.Back.τ).loc Cert.Back.main_arg10))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
      ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
      ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
      ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
      ∧ r.2.mem ((c.tc : Thread Cert.BackIdeal.nD Cert.BackIdeal.τ).loc Cert.BackIdeal.main_arg10) = m ((c.tc : Thread Cert.BackIdeal.nD Cert.BackIdeal.τ).loc Cert.BackIdeal.main_arg10))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1)
      ∧ r.2.mem ((c.tc : Thread Cert.BackReferenceIdeal.nD Cert.BackReferenceIdeal.τ).loc Cert.BackReferenceIdeal.main_arg2) = m ((c.tc : Thread Cert.BackReferenceIdeal.nD Cert.BackReferenceIdeal.τ).loc Cert.BackReferenceIdeal.main_arg2)
      ∧ r.2.mem ((c.tc : Thread Cert.BackReferenceIdeal.nD Cert.BackReferenceIdeal.τ).loc Cert.BackReferenceIdeal.main_arg3) = m ((c.tc : Thread Cert.BackReferenceIdeal.nD Cert.BackReferenceIdeal.τ).loc Cert.BackReferenceIdeal.main_arg3)
      ∧ r.2.mem ((c.tc : Thread Cert.BackReferenceIdeal.nD Cert.BackReferenceIdeal.τ).loc Cert.BackReferenceIdeal.main_arg4) = m ((c.tc : Thread Cert.BackReferenceIdeal.nD Cert.BackReferenceIdeal.τ).loc Cert.BackReferenceIdeal.main_arg4)
      ∧ r.2.mem ((c.tc : Thread Cert.BackReferenceIdeal.nD Cert.BackReferenceIdeal.τ).loc Cert.BackReferenceIdeal.main_arg5) = m ((c.tc : Thread Cert.BackReferenceIdeal.nD Cert.BackReferenceIdeal.τ).loc Cert.BackReferenceIdeal.main_arg5)
      ∧ r.2.mem ((c.tc : Thread Cert.BackReferenceIdeal.nD Cert.BackReferenceIdeal.τ).loc Cert.BackReferenceIdeal.main_arg6) = m ((c.tc : Thread Cert.BackReferenceIdeal.nD Cert.BackReferenceIdeal.τ).loc Cert.BackReferenceIdeal.main_arg6)
      ∧ r.2.mem ((c.tc : Thread Cert.BackReferenceIdeal.nD Cert.BackReferenceIdeal.τ).loc Cert.BackReferenceIdeal.main_arg7) = m ((c.tc : Thread Cert.BackReferenceIdeal.nD Cert.BackReferenceIdeal.τ).loc Cert.BackReferenceIdeal.main_arg7)
      ∧ r.2.mem ((c.tc : Thread Cert.BackReferenceIdeal.nD Cert.BackReferenceIdeal.τ).loc Cert.BackReferenceIdeal.main_arg8) = m ((c.tc : Thread Cert.BackReferenceIdeal.nD Cert.BackReferenceIdeal.τ).loc Cert.BackReferenceIdeal.main_arg8)
      ∧ r.2.mem ((c.tc : Thread Cert.BackReferenceIdeal.nD Cert.BackReferenceIdeal.τ).loc Cert.BackReferenceIdeal.main_arg9) = m ((c.tc : Thread Cert.BackReferenceIdeal.nD Cert.BackReferenceIdeal.τ).loc Cert.BackReferenceIdeal.main_arg9)
      ∧ r.2.mem ((c.tc : Thread Cert.BackReferenceIdeal.nD Cert.BackReferenceIdeal.τ).loc Cert.BackReferenceIdeal.main_arg10) = m ((c.tc : Thread Cert.BackReferenceIdeal.nD Cert.BackReferenceIdeal.τ).loc Cert.BackReferenceIdeal.main_arg10))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6)
      ∧ r.2.mem ((c.tc : Thread Cert.Front.nD Cert.Front.τ).loc Cert.Front.main_arg7) = m ((c.tc : Thread Cert.Front.nD Cert.Front.τ).loc Cert.Front.main_arg7)
      ∧ r.2.mem ((c.tc : Thread Cert.Front.nD Cert.Front.τ).loc Cert.Front.main_arg8) = m ((c.tc : Thread Cert.Front.nD Cert.Front.τ).loc Cert.Front.main_arg8)
      ∧ r.2.mem ((c.tc : Thread Cert.Front.nD Cert.Front.τ).loc Cert.Front.main_arg9) = m ((c.tc : Thread Cert.Front.nD Cert.Front.τ).loc Cert.Front.main_arg9)
      ∧ r.2.mem ((c.tc : Thread Cert.Front.nD Cert.Front.τ).loc Cert.Front.main_arg10) = m ((c.tc : Thread Cert.Front.nD Cert.Front.τ).loc Cert.Front.main_arg10)
      ∧ r.2.mem ((c.tc : Thread Cert.Front.nD Cert.Front.τ).loc Cert.Front.main_arg11) = m ((c.tc : Thread Cert.Front.nD Cert.Front.τ).loc Cert.Front.main_arg11)
      ∧ r.2.mem ((c.tc : Thread Cert.Front.nD Cert.Front.τ).loc Cert.Front.main_arg12) = m ((c.tc : Thread Cert.Front.nD Cert.Front.τ).loc Cert.Front.main_arg12)
      ∧ r.2.mem ((c.tc : Thread Cert.Front.nD Cert.Front.τ).loc Cert.Front.main_arg13) = m ((c.tc : Thread Cert.Front.nD Cert.Front.τ).loc Cert.Front.main_arg13))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
      ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
      ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10)
      ∧ r.2.mem ((c.tc : Thread Cert.FrontIdeal.nD Cert.FrontIdeal.τ).loc Cert.FrontIdeal.main_arg11) = m ((c.tc : Thread Cert.FrontIdeal.nD Cert.FrontIdeal.τ).loc Cert.FrontIdeal.main_arg11)
      ∧ r.2.mem ((c.tc : Thread Cert.FrontIdeal.nD Cert.FrontIdeal.τ).loc Cert.FrontIdeal.main_arg12) = m ((c.tc : Thread Cert.FrontIdeal.nD Cert.FrontIdeal.τ).loc Cert.FrontIdeal.main_arg12)
      ∧ r.2.mem ((c.tc : Thread Cert.FrontIdeal.nD Cert.FrontIdeal.τ).loc Cert.FrontIdeal.main_arg13) = m ((c.tc : Thread Cert.FrontIdeal.nD Cert.FrontIdeal.τ).loc Cert.FrontIdeal.main_arg13))
      ∧ r.2.sem = fun _ => 0)

def quiescent_FrontReferenceIdeal [hFrontReferenceIdeal : Cert.FrontReferenceIdeal.Facts] : Prop :=
  ∀ (m : (ℓ : Loc Cert.FrontReferenceIdeal.nD Cert.FrontReferenceIdeal.τ Cert.FrontReferenceIdeal.sig) → Buf (Elt Ideal) ℓ) (g : Dev Cert.FrontReferenceIdeal.nD → PrngReg), Pre_FrontReferenceIdeal m →
    θ_run (Cert.FrontReferenceIdeal.defs (F := Ideal)) (onTc (τ := Cert.FrontReferenceIdeal.τ) (Cert.FrontReferenceIdeal.main (F := Ideal))) ⟨m, fun _ => 0, g⟩ (fun r => (∀ c : Dev Cert.FrontReferenceIdeal.nD,
      r.2.mem ((c.tc : Thread Cert.FrontReferenceIdeal.nD Cert.FrontReferenceIdeal.τ).loc Cert.FrontReferenceIdeal.main_arg0) = m ((c.tc : Thread Cert.FrontReferenceIdeal.nD Cert.FrontReferenceIdeal.τ).loc Cert.FrontReferenceIdeal.main_arg0)
      ∧ r.2.mem ((c.tc : Thread Cert.FrontReferenceIdeal.nD Cert.FrontReferenceIdeal.τ).loc Cert.FrontReferenceIdeal.main_arg1) = m ((c.tc : Thread Cert.FrontReferenceIdeal.nD Cert.FrontReferenceIdeal.τ).loc Cert.FrontReferenceIdeal.main_arg1)
      ∧ r.2.mem ((c.tc : Thread Cert.FrontReferenceIdeal.nD Cert.FrontReferenceIdeal.τ).loc Cert.FrontReferenceIdeal.main_arg2) = m ((c.tc : Thread Cert.FrontReferenceIdeal.nD Cert.FrontReferenceIdeal.τ).loc Cert.FrontReferenceIdeal.main_arg2)
      ∧ r.2.mem ((c.tc : Thread Cert.FrontReferenceIdeal.nD Cert.FrontReferenceIdeal.τ).loc Cert.FrontReferenceIdeal.main_arg3) = m ((c.tc : Thread Cert.FrontReferenceIdeal.nD Cert.FrontReferenceIdeal.τ).loc Cert.FrontReferenceIdeal.main_arg3)
      ∧ r.2.mem ((c.tc : Thread Cert.FrontReferenceIdeal.nD Cert.FrontReferenceIdeal.τ).loc Cert.FrontReferenceIdeal.main_arg4) = m ((c.tc : Thread Cert.FrontReferenceIdeal.nD Cert.FrontReferenceIdeal.τ).loc Cert.FrontReferenceIdeal.main_arg4)
      ∧ r.2.mem ((c.tc : Thread Cert.FrontReferenceIdeal.nD Cert.FrontReferenceIdeal.τ).loc Cert.FrontReferenceIdeal.main_arg5) = m ((c.tc : Thread Cert.FrontReferenceIdeal.nD Cert.FrontReferenceIdeal.τ).loc Cert.FrontReferenceIdeal.main_arg5)
      ∧ r.2.mem ((c.tc : Thread Cert.FrontReferenceIdeal.nD Cert.FrontReferenceIdeal.τ).loc Cert.FrontReferenceIdeal.main_arg6) = m ((c.tc : Thread Cert.FrontReferenceIdeal.nD Cert.FrontReferenceIdeal.τ).loc Cert.FrontReferenceIdeal.main_arg6)
      ∧ r.2.mem ((c.tc : Thread Cert.FrontReferenceIdeal.nD Cert.FrontReferenceIdeal.τ).loc Cert.FrontReferenceIdeal.main_arg7) = m ((c.tc : Thread Cert.FrontReferenceIdeal.nD Cert.FrontReferenceIdeal.τ).loc Cert.FrontReferenceIdeal.main_arg7)
      ∧ r.2.mem ((c.tc : Thread Cert.FrontReferenceIdeal.nD Cert.FrontReferenceIdeal.τ).loc Cert.FrontReferenceIdeal.main_arg8) = m ((c.tc : Thread Cert.FrontReferenceIdeal.nD Cert.FrontReferenceIdeal.τ).loc Cert.FrontReferenceIdeal.main_arg8)
      ∧ r.2.mem ((c.tc : Thread Cert.FrontReferenceIdeal.nD Cert.FrontReferenceIdeal.τ).loc Cert.FrontReferenceIdeal.main_arg9) = m ((c.tc : Thread Cert.FrontReferenceIdeal.nD Cert.FrontReferenceIdeal.τ).loc Cert.FrontReferenceIdeal.main_arg9)
      ∧ r.2.mem ((c.tc : Thread Cert.FrontReferenceIdeal.nD Cert.FrontReferenceIdeal.τ).loc Cert.FrontReferenceIdeal.main_arg10) = m ((c.tc : Thread Cert.FrontReferenceIdeal.nD Cert.FrontReferenceIdeal.τ).loc Cert.FrontReferenceIdeal.main_arg10)
      ∧ r.2.mem ((c.tc : Thread Cert.FrontReferenceIdeal.nD Cert.FrontReferenceIdeal.τ).loc Cert.FrontReferenceIdeal.main_arg11) = m ((c.tc : Thread Cert.FrontReferenceIdeal.nD Cert.FrontReferenceIdeal.τ).loc Cert.FrontReferenceIdeal.main_arg11)
      ∧ r.2.mem ((c.tc : Thread Cert.FrontReferenceIdeal.nD Cert.FrontReferenceIdeal.τ).loc Cert.FrontReferenceIdeal.main_arg12) = m ((c.tc : Thread Cert.FrontReferenceIdeal.nD Cert.FrontReferenceIdeal.τ).loc Cert.FrontReferenceIdeal.main_arg12)
      ∧ r.2.mem ((c.tc : Thread Cert.FrontReferenceIdeal.nD Cert.FrontReferenceIdeal.τ).loc Cert.FrontReferenceIdeal.main_arg13) = m ((c.tc : Thread Cert.FrontReferenceIdeal.nD Cert.FrontReferenceIdeal.τ).loc Cert.FrontReferenceIdeal.main_arg13))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4)
      ∧ r.2.mem ((c.tc : Thread Cert.Compress.nD Cert.Compress.τ).loc Cert.Compress.main_arg5) = m ((c.tc : Thread Cert.Compress.nD Cert.Compress.τ).loc Cert.Compress.main_arg5)
      ∧ r.2.mem ((c.tc : Thread Cert.Compress.nD Cert.Compress.τ).loc Cert.Compress.main_arg6) = m ((c.tc : Thread Cert.Compress.nD Cert.Compress.τ).loc Cert.Compress.main_arg6)
      ∧ r.2.mem ((c.tc : Thread Cert.Compress.nD Cert.Compress.τ).loc Cert.Compress.main_arg7) = m ((c.tc : Thread Cert.Compress.nD Cert.Compress.τ).loc Cert.Compress.main_arg7))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
      ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
      ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7))
      ∧ r.2.sem = fun _ => 0)

def quiescent_CompressReferenceIdeal [hCompressReferenceIdeal : Cert.CompressReferenceIdeal.Facts] : Prop :=
  ∀ (m : (ℓ : Loc Cert.CompressReferenceIdeal.nD Cert.CompressReferenceIdeal.τ Cert.CompressReferenceIdeal.sig) → Buf (Elt Ideal) ℓ) (g : Dev Cert.CompressReferenceIdeal.nD → PrngReg), Pre_CompressReferenceIdeal m →
    θ_run (Cert.CompressReferenceIdeal.defs (F := Ideal)) (onTc (τ := Cert.CompressReferenceIdeal.τ) (Cert.CompressReferenceIdeal.main (F := Ideal))) ⟨m, fun _ => 0, g⟩ (fun r => (∀ c : Dev Cert.CompressReferenceIdeal.nD,
      r.2.mem ((c.tc : Thread Cert.CompressReferenceIdeal.nD Cert.CompressReferenceIdeal.τ).loc Cert.CompressReferenceIdeal.main_arg0) = m ((c.tc : Thread Cert.CompressReferenceIdeal.nD Cert.CompressReferenceIdeal.τ).loc Cert.CompressReferenceIdeal.main_arg0)
      ∧ r.2.mem ((c.tc : Thread Cert.CompressReferenceIdeal.nD Cert.CompressReferenceIdeal.τ).loc Cert.CompressReferenceIdeal.main_arg1) = m ((c.tc : Thread Cert.CompressReferenceIdeal.nD Cert.CompressReferenceIdeal.τ).loc Cert.CompressReferenceIdeal.main_arg1)
      ∧ r.2.mem ((c.tc : Thread Cert.CompressReferenceIdeal.nD Cert.CompressReferenceIdeal.τ).loc Cert.CompressReferenceIdeal.main_arg2) = m ((c.tc : Thread Cert.CompressReferenceIdeal.nD Cert.CompressReferenceIdeal.τ).loc Cert.CompressReferenceIdeal.main_arg2)
      ∧ r.2.mem ((c.tc : Thread Cert.CompressReferenceIdeal.nD Cert.CompressReferenceIdeal.τ).loc Cert.CompressReferenceIdeal.main_arg3) = m ((c.tc : Thread Cert.CompressReferenceIdeal.nD Cert.CompressReferenceIdeal.τ).loc Cert.CompressReferenceIdeal.main_arg3)
      ∧ r.2.mem ((c.tc : Thread Cert.CompressReferenceIdeal.nD Cert.CompressReferenceIdeal.τ).loc Cert.CompressReferenceIdeal.main_arg4) = m ((c.tc : Thread Cert.CompressReferenceIdeal.nD Cert.CompressReferenceIdeal.τ).loc Cert.CompressReferenceIdeal.main_arg4)
      ∧ r.2.mem ((c.tc : Thread Cert.CompressReferenceIdeal.nD Cert.CompressReferenceIdeal.τ).loc Cert.CompressReferenceIdeal.main_arg5) = m ((c.tc : Thread Cert.CompressReferenceIdeal.nD Cert.CompressReferenceIdeal.τ).loc Cert.CompressReferenceIdeal.main_arg5)
      ∧ r.2.mem ((c.tc : Thread Cert.CompressReferenceIdeal.nD Cert.CompressReferenceIdeal.τ).loc Cert.CompressReferenceIdeal.main_arg6) = m ((c.tc : Thread Cert.CompressReferenceIdeal.nD Cert.CompressReferenceIdeal.τ).loc Cert.CompressReferenceIdeal.main_arg6)
      ∧ r.2.mem ((c.tc : Thread Cert.CompressReferenceIdeal.nD Cert.CompressReferenceIdeal.τ).loc Cert.CompressReferenceIdeal.main_arg7) = m ((c.tc : Thread Cert.CompressReferenceIdeal.nD Cert.CompressReferenceIdeal.τ).loc Cert.CompressReferenceIdeal.main_arg7))
      ∧ r.2.sem = fun _ => 0)

def preserves_Back_BackIdeal : Prop :=
  True

def algebraic_BackIdeal_BackReferenceIdeal [hBackIdeal : Cert.BackIdeal.Facts] [hBackReferenceIdeal : Cert.BackReferenceIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackIdeal m →
    (∀ c : Dev Cert.BackIdeal.nD,
      m' ((c.tc : Thread Cert.BackReferenceIdeal.nD Cert.BackReferenceIdeal.τ).loc Cert.BackReferenceIdeal.main_arg0) = m ((c.tc : Thread Cert.BackIdeal.nD Cert.BackIdeal.τ).loc Cert.BackIdeal.main_arg0)
      ∧ m' ((c.tc : Thread Cert.BackReferenceIdeal.nD Cert.BackReferenceIdeal.τ).loc Cert.BackReferenceIdeal.main_arg1) = m ((c.tc : Thread Cert.BackIdeal.nD Cert.BackIdeal.τ).loc Cert.BackIdeal.main_arg1)
      ∧ m' ((c.tc : Thread Cert.BackReferenceIdeal.nD Cert.BackReferenceIdeal.τ).loc Cert.BackReferenceIdeal.main_arg2) = m ((c.tc : Thread Cert.BackIdeal.nD Cert.BackIdeal.τ).loc Cert.BackIdeal.main_arg2)
      ∧ m' ((c.tc : Thread Cert.BackReferenceIdeal.nD Cert.BackReferenceIdeal.τ).loc Cert.BackReferenceIdeal.main_arg3) = m ((c.tc : Thread Cert.BackIdeal.nD Cert.BackIdeal.τ).loc Cert.BackIdeal.main_arg3)
      ∧ m' ((c.tc : Thread Cert.BackReferenceIdeal.nD Cert.BackReferenceIdeal.τ).loc Cert.BackReferenceIdeal.main_arg4) = m ((c.tc : Thread Cert.BackIdeal.nD Cert.BackIdeal.τ).loc Cert.BackIdeal.main_arg4)
      ∧ m' ((c.tc : Thread Cert.BackReferenceIdeal.nD Cert.BackReferenceIdeal.τ).loc Cert.BackReferenceIdeal.main_arg5) = m ((c.tc : Thread Cert.BackIdeal.nD Cert.BackIdeal.τ).loc Cert.BackIdeal.main_arg5)
      ∧ m' ((c.tc : Thread Cert.BackReferenceIdeal.nD Cert.BackReferenceIdeal.τ).loc Cert.BackReferenceIdeal.main_arg6) = m ((c.tc : Thread Cert.BackIdeal.nD Cert.BackIdeal.τ).loc Cert.BackIdeal.main_arg6)
      ∧ m' ((c.tc : Thread Cert.BackReferenceIdeal.nD Cert.BackReferenceIdeal.τ).loc Cert.BackReferenceIdeal.main_arg7) = m ((c.tc : Thread Cert.BackIdeal.nD Cert.BackIdeal.τ).loc Cert.BackIdeal.main_arg7)
      ∧ m' ((c.tc : Thread Cert.BackReferenceIdeal.nD Cert.BackReferenceIdeal.τ).loc Cert.BackReferenceIdeal.main_arg8) = m ((c.tc : Thread Cert.BackIdeal.nD Cert.BackIdeal.τ).loc Cert.BackIdeal.main_arg8)
      ∧ m' ((c.tc : Thread Cert.BackReferenceIdeal.nD Cert.BackReferenceIdeal.τ).loc Cert.BackReferenceIdeal.main_arg9) = m ((c.tc : Thread Cert.BackIdeal.nD Cert.BackIdeal.τ).loc Cert.BackIdeal.main_arg9)
      ∧ m' ((c.tc : Thread Cert.BackReferenceIdeal.nD Cert.BackReferenceIdeal.τ).loc Cert.BackReferenceIdeal.main_arg10) = m ((c.tc : Thread Cert.BackIdeal.nD Cert.BackIdeal.τ).loc Cert.BackIdeal.main_arg10)) →
    ∃ (v0 : (c : Dev Cert.BackIdeal.nD) → Buf (Elt Ideal) ((c.tc : Thread Cert.BackIdeal.nD Cert.BackIdeal.τ).loc Cert.BackIdeal.main_v11)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v11) = v0 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
          ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
          ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
          ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
          ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
          ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
          ∧ r.2.mem ((c.tc : Thread Cert.BackIdeal.nD Cert.BackIdeal.τ).loc Cert.BackIdeal.main_arg10) = m ((c.tc : Thread Cert.BackIdeal.nD Cert.BackIdeal.τ).loc Cert.BackIdeal.main_arg10))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v65) = v0 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1)
          ∧ r.2.mem ((c.tc : Thread Cert.BackReferenceIdeal.nD Cert.BackReferenceIdeal.τ).loc Cert.BackReferenceIdeal.main_arg2) = m' ((c.tc : Thread Cert.BackReferenceIdeal.nD Cert.BackReferenceIdeal.τ).loc Cert.BackReferenceIdeal.main_arg2)
          ∧ r.2.mem ((c.tc : Thread Cert.BackReferenceIdeal.nD Cert.BackReferenceIdeal.τ).loc Cert.BackReferenceIdeal.main_arg3) = m' ((c.tc : Thread Cert.BackReferenceIdeal.nD Cert.BackReferenceIdeal.τ).loc Cert.BackReferenceIdeal.main_arg3)
          ∧ r.2.mem ((c.tc : Thread Cert.BackReferenceIdeal.nD Cert.BackReferenceIdeal.τ).loc Cert.BackReferenceIdeal.main_arg4) = m' ((c.tc : Thread Cert.BackReferenceIdeal.nD Cert.BackReferenceIdeal.τ).loc Cert.BackReferenceIdeal.main_arg4)
          ∧ r.2.mem ((c.tc : Thread Cert.BackReferenceIdeal.nD Cert.BackReferenceIdeal.τ).loc Cert.BackReferenceIdeal.main_arg5) = m' ((c.tc : Thread Cert.BackReferenceIdeal.nD Cert.BackReferenceIdeal.τ).loc Cert.BackReferenceIdeal.main_arg5)
          ∧ r.2.mem ((c.tc : Thread Cert.BackReferenceIdeal.nD Cert.BackReferenceIdeal.τ).loc Cert.BackReferenceIdeal.main_arg6) = m' ((c.tc : Thread Cert.BackReferenceIdeal.nD Cert.BackReferenceIdeal.τ).loc Cert.BackReferenceIdeal.main_arg6)
          ∧ r.2.mem ((c.tc : Thread Cert.BackReferenceIdeal.nD Cert.BackReferenceIdeal.τ).loc Cert.BackReferenceIdeal.main_arg7) = m' ((c.tc : Thread Cert.BackReferenceIdeal.nD Cert.BackReferenceIdeal.τ).loc Cert.BackReferenceIdeal.main_arg7)
          ∧ r.2.mem ((c.tc : Thread Cert.BackReferenceIdeal.nD Cert.BackReferenceIdeal.τ).loc Cert.BackReferenceIdeal.main_arg8) = m' ((c.tc : Thread Cert.BackReferenceIdeal.nD Cert.BackReferenceIdeal.τ).loc Cert.BackReferenceIdeal.main_arg8)
          ∧ r.2.mem ((c.tc : Thread Cert.BackReferenceIdeal.nD Cert.BackReferenceIdeal.τ).loc Cert.BackReferenceIdeal.main_arg9) = m' ((c.tc : Thread Cert.BackReferenceIdeal.nD Cert.BackReferenceIdeal.τ).loc Cert.BackReferenceIdeal.main_arg9)
          ∧ r.2.mem ((c.tc : Thread Cert.BackReferenceIdeal.nD Cert.BackReferenceIdeal.τ).loc Cert.BackReferenceIdeal.main_arg10) = m' ((c.tc : Thread Cert.BackReferenceIdeal.nD Cert.BackReferenceIdeal.τ).loc Cert.BackReferenceIdeal.main_arg10))

def preserves_Kernel_KernelIdeal : Prop :=
  True

def preserves_Front_FrontIdeal : Prop :=
  True

def algebraic_FrontIdeal_FrontReferenceIdeal [hFrontIdeal : Cert.FrontIdeal.Facts] [hFrontReferenceIdeal : Cert.FrontReferenceIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontReferenceIdeal.nD Cert.FrontReferenceIdeal.τ Cert.FrontReferenceIdeal.sig) → Buf (Elt Ideal) ℓ) (g' : Dev Cert.FrontReferenceIdeal.nD → PrngReg), Pre_FrontIdeal m →
    (∀ c : Dev Cert.FrontIdeal.nD,
      m' ((c.tc : Thread Cert.FrontReferenceIdeal.nD Cert.FrontReferenceIdeal.τ).loc Cert.FrontReferenceIdeal.main_arg0) = m ((c.tc : Thread Cert.FrontIdeal.nD Cert.FrontIdeal.τ).loc Cert.FrontIdeal.main_arg0)
      ∧ m' ((c.tc : Thread Cert.FrontReferenceIdeal.nD Cert.FrontReferenceIdeal.τ).loc Cert.FrontReferenceIdeal.main_arg1) = m ((c.tc : Thread Cert.FrontIdeal.nD Cert.FrontIdeal.τ).loc Cert.FrontIdeal.main_arg1)
      ∧ m' ((c.tc : Thread Cert.FrontReferenceIdeal.nD Cert.FrontReferenceIdeal.τ).loc Cert.FrontReferenceIdeal.main_arg2) = m ((c.tc : Thread Cert.FrontIdeal.nD Cert.FrontIdeal.τ).loc Cert.FrontIdeal.main_arg2)
      ∧ m' ((c.tc : Thread Cert.FrontReferenceIdeal.nD Cert.FrontReferenceIdeal.τ).loc Cert.FrontReferenceIdeal.main_arg3) = m ((c.tc : Thread Cert.FrontIdeal.nD Cert.FrontIdeal.τ).loc Cert.FrontIdeal.main_arg3)
      ∧ m' ((c.tc : Thread Cert.FrontReferenceIdeal.nD Cert.FrontReferenceIdeal.τ).loc Cert.FrontReferenceIdeal.main_arg4) = m ((c.tc : Thread Cert.FrontIdeal.nD Cert.FrontIdeal.τ).loc Cert.FrontIdeal.main_arg4)
      ∧ m' ((c.tc : Thread Cert.FrontReferenceIdeal.nD Cert.FrontReferenceIdeal.τ).loc Cert.FrontReferenceIdeal.main_arg5) = m ((c.tc : Thread Cert.FrontIdeal.nD Cert.FrontIdeal.τ).loc Cert.FrontIdeal.main_arg5)
      ∧ m' ((c.tc : Thread Cert.FrontReferenceIdeal.nD Cert.FrontReferenceIdeal.τ).loc Cert.FrontReferenceIdeal.main_arg6) = m ((c.tc : Thread Cert.FrontIdeal.nD Cert.FrontIdeal.τ).loc Cert.FrontIdeal.main_arg6)
      ∧ m' ((c.tc : Thread Cert.FrontReferenceIdeal.nD Cert.FrontReferenceIdeal.τ).loc Cert.FrontReferenceIdeal.main_arg7) = m ((c.tc : Thread Cert.FrontIdeal.nD Cert.FrontIdeal.τ).loc Cert.FrontIdeal.main_arg7)
      ∧ m' ((c.tc : Thread Cert.FrontReferenceIdeal.nD Cert.FrontReferenceIdeal.τ).loc Cert.FrontReferenceIdeal.main_arg8) = m ((c.tc : Thread Cert.FrontIdeal.nD Cert.FrontIdeal.τ).loc Cert.FrontIdeal.main_arg8)
      ∧ m' ((c.tc : Thread Cert.FrontReferenceIdeal.nD Cert.FrontReferenceIdeal.τ).loc Cert.FrontReferenceIdeal.main_arg9) = m ((c.tc : Thread Cert.FrontIdeal.nD Cert.FrontIdeal.τ).loc Cert.FrontIdeal.main_arg9)
      ∧ m' ((c.tc : Thread Cert.FrontReferenceIdeal.nD Cert.FrontReferenceIdeal.τ).loc Cert.FrontReferenceIdeal.main_arg10) = m ((c.tc : Thread Cert.FrontIdeal.nD Cert.FrontIdeal.τ).loc Cert.FrontIdeal.main_arg10)
      ∧ m' ((c.tc : Thread Cert.FrontReferenceIdeal.nD Cert.FrontReferenceIdeal.τ).loc Cert.FrontReferenceIdeal.main_arg11) = m ((c.tc : Thread Cert.FrontIdeal.nD Cert.FrontIdeal.τ).loc Cert.FrontIdeal.main_arg11)
      ∧ m' ((c.tc : Thread Cert.FrontReferenceIdeal.nD Cert.FrontReferenceIdeal.τ).loc Cert.FrontReferenceIdeal.main_arg12) = m ((c.tc : Thread Cert.FrontIdeal.nD Cert.FrontIdeal.τ).loc Cert.FrontIdeal.main_arg12)
      ∧ m' ((c.tc : Thread Cert.FrontReferenceIdeal.nD Cert.FrontReferenceIdeal.τ).loc Cert.FrontReferenceIdeal.main_arg13) = m ((c.tc : Thread Cert.FrontIdeal.nD Cert.FrontIdeal.τ).loc Cert.FrontIdeal.main_arg13)) →
    ∃ (v0 : (c : Dev Cert.FrontIdeal.nD) → Buf (Elt Ideal) ((c.tc : Thread Cert.FrontIdeal.nD Cert.FrontIdeal.τ).loc Cert.FrontIdeal.main_v45_0)) (v1 : (c : Dev Cert.FrontIdeal.nD) → Buf (Elt Ideal) ((c.tc : Thread Cert.FrontIdeal.nD Cert.FrontIdeal.τ).loc Cert.FrontIdeal.main_v45_3)) (v2 : (c : Dev Cert.FrontIdeal.nD) → Buf (Elt Ideal) ((c.tc : Thread Cert.FrontIdeal.nD Cert.FrontIdeal.τ).loc Cert.FrontIdeal.main_v45_4)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v45_0) = v0 c
          ∧ r.2.mem ((c.tc : Thread Cert.FrontIdeal.nD Cert.FrontIdeal.τ).loc Cert.FrontIdeal.main_v45_3) = v1 c
          ∧ r.2.mem ((c.tc : Thread Cert.FrontIdeal.nD Cert.FrontIdeal.τ).loc Cert.FrontIdeal.main_v45_4) = v2 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
          ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
          ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
          ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
          ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10)
          ∧ r.2.mem ((c.tc : Thread Cert.FrontIdeal.nD Cert.FrontIdeal.τ).loc Cert.FrontIdeal.main_arg11) = m ((c.tc : Thread Cert.FrontIdeal.nD Cert.FrontIdeal.τ).loc Cert.FrontIdeal.main_arg11)
          ∧ r.2.mem ((c.tc : Thread Cert.FrontIdeal.nD Cert.FrontIdeal.τ).loc Cert.FrontIdeal.main_arg12) = m ((c.tc : Thread Cert.FrontIdeal.nD Cert.FrontIdeal.τ).loc Cert.FrontIdeal.main_arg12)
          ∧ r.2.mem ((c.tc : Thread Cert.FrontIdeal.nD Cert.FrontIdeal.τ).loc Cert.FrontIdeal.main_arg13) = m ((c.tc : Thread Cert.FrontIdeal.nD Cert.FrontIdeal.τ).loc Cert.FrontIdeal.main_arg13))
      ∧ θ_run (Cert.FrontReferenceIdeal.defs (F := Ideal)) (onTc (τ := Cert.FrontReferenceIdeal.τ) (Cert.FrontReferenceIdeal.main (F := Ideal))) ⟨m', fun _ => 0, g'⟩ (fun r => ∀ c : Dev Cert.FrontReferenceIdeal.nD,
          r.2.mem ((c.tc : Thread Cert.FrontReferenceIdeal.nD Cert.FrontReferenceIdeal.τ).loc Cert.FrontReferenceIdeal.main_v67) = v0 c
          ∧ r.2.mem ((c.tc : Thread Cert.FrontReferenceIdeal.nD Cert.FrontReferenceIdeal.τ).loc Cert.FrontReferenceIdeal.main_v22) = v1 c
          ∧ r.2.mem ((c.tc : Thread Cert.FrontReferenceIdeal.nD Cert.FrontReferenceIdeal.τ).loc Cert.FrontReferenceIdeal.main_v66) = v2 c
          ∧ r.2.mem ((c.tc : Thread Cert.FrontReferenceIdeal.nD Cert.FrontReferenceIdeal.τ).loc Cert.FrontReferenceIdeal.main_arg0) = m' ((c.tc : Thread Cert.FrontReferenceIdeal.nD Cert.FrontReferenceIdeal.τ).loc Cert.FrontReferenceIdeal.main_arg0)
          ∧ r.2.mem ((c.tc : Thread Cert.FrontReferenceIdeal.nD Cert.FrontReferenceIdeal.τ).loc Cert.FrontReferenceIdeal.main_arg1) = m' ((c.tc : Thread Cert.FrontReferenceIdeal.nD Cert.FrontReferenceIdeal.τ).loc Cert.FrontReferenceIdeal.main_arg1)
          ∧ r.2.mem ((c.tc : Thread Cert.FrontReferenceIdeal.nD Cert.FrontReferenceIdeal.τ).loc Cert.FrontReferenceIdeal.main_arg2) = m' ((c.tc : Thread Cert.FrontReferenceIdeal.nD Cert.FrontReferenceIdeal.τ).loc Cert.FrontReferenceIdeal.main_arg2)
          ∧ r.2.mem ((c.tc : Thread Cert.FrontReferenceIdeal.nD Cert.FrontReferenceIdeal.τ).loc Cert.FrontReferenceIdeal.main_arg3) = m' ((c.tc : Thread Cert.FrontReferenceIdeal.nD Cert.FrontReferenceIdeal.τ).loc Cert.FrontReferenceIdeal.main_arg3)
          ∧ r.2.mem ((c.tc : Thread Cert.FrontReferenceIdeal.nD Cert.FrontReferenceIdeal.τ).loc Cert.FrontReferenceIdeal.main_arg4) = m' ((c.tc : Thread Cert.FrontReferenceIdeal.nD Cert.FrontReferenceIdeal.τ).loc Cert.FrontReferenceIdeal.main_arg4)
          ∧ r.2.mem ((c.tc : Thread Cert.FrontReferenceIdeal.nD Cert.FrontReferenceIdeal.τ).loc Cert.FrontReferenceIdeal.main_arg5) = m' ((c.tc : Thread Cert.FrontReferenceIdeal.nD Cert.FrontReferenceIdeal.τ).loc Cert.FrontReferenceIdeal.main_arg5)
          ∧ r.2.mem ((c.tc : Thread Cert.FrontReferenceIdeal.nD Cert.FrontReferenceIdeal.τ).loc Cert.FrontReferenceIdeal.main_arg6) = m' ((c.tc : Thread Cert.FrontReferenceIdeal.nD Cert.FrontReferenceIdeal.τ).loc Cert.FrontReferenceIdeal.main_arg6)
          ∧ r.2.mem ((c.tc : Thread Cert.FrontReferenceIdeal.nD Cert.FrontReferenceIdeal.τ).loc Cert.FrontReferenceIdeal.main_arg7) = m' ((c.tc : Thread Cert.FrontReferenceIdeal.nD Cert.FrontReferenceIdeal.τ).loc Cert.FrontReferenceIdeal.main_arg7)
          ∧ r.2.mem ((c.tc : Thread Cert.FrontReferenceIdeal.nD Cert.FrontReferenceIdeal.τ).loc Cert.FrontReferenceIdeal.main_arg8) = m' ((c.tc : Thread Cert.FrontReferenceIdeal.nD Cert.FrontReferenceIdeal.τ).loc Cert.FrontReferenceIdeal.main_arg8)
          ∧ r.2.mem ((c.tc : Thread Cert.FrontReferenceIdeal.nD Cert.FrontReferenceIdeal.τ).loc Cert.FrontReferenceIdeal.main_arg9) = m' ((c.tc : Thread Cert.FrontReferenceIdeal.nD Cert.FrontReferenceIdeal.τ).loc Cert.FrontReferenceIdeal.main_arg9)
          ∧ r.2.mem ((c.tc : Thread Cert.FrontReferenceIdeal.nD Cert.FrontReferenceIdeal.τ).loc Cert.FrontReferenceIdeal.main_arg10) = m' ((c.tc : Thread Cert.FrontReferenceIdeal.nD Cert.FrontReferenceIdeal.τ).loc Cert.FrontReferenceIdeal.main_arg10)
          ∧ r.2.mem ((c.tc : Thread Cert.FrontReferenceIdeal.nD Cert.FrontReferenceIdeal.τ).loc Cert.FrontReferenceIdeal.main_arg11) = m' ((c.tc : Thread Cert.FrontReferenceIdeal.nD Cert.FrontReferenceIdeal.τ).loc Cert.FrontReferenceIdeal.main_arg11)
          ∧ r.2.mem ((c.tc : Thread Cert.FrontReferenceIdeal.nD Cert.FrontReferenceIdeal.τ).loc Cert.FrontReferenceIdeal.main_arg12) = m' ((c.tc : Thread Cert.FrontReferenceIdeal.nD Cert.FrontReferenceIdeal.τ).loc Cert.FrontReferenceIdeal.main_arg12)
          ∧ r.2.mem ((c.tc : Thread Cert.FrontReferenceIdeal.nD Cert.FrontReferenceIdeal.τ).loc Cert.FrontReferenceIdeal.main_arg13) = m' ((c.tc : Thread Cert.FrontReferenceIdeal.nD Cert.FrontReferenceIdeal.τ).loc Cert.FrontReferenceIdeal.main_arg13))

def preserves_Compress_CompressIdeal : Prop :=
  True

def algebraic_CompressIdeal_CompressReferenceIdeal [hCompressIdeal : Cert.CompressIdeal.Facts] [hCompressReferenceIdeal : Cert.CompressReferenceIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressReferenceIdeal.nD Cert.CompressReferenceIdeal.τ Cert.CompressReferenceIdeal.sig) → Buf (Elt Ideal) ℓ) (g' : Dev Cert.CompressReferenceIdeal.nD → PrngReg), Pre_CompressIdeal m →
    (∀ c : Dev Cert.CompressIdeal.nD,
      m' ((c.tc : Thread Cert.CompressReferenceIdeal.nD Cert.CompressReferenceIdeal.τ).loc Cert.CompressReferenceIdeal.main_arg0) = m ((c.tc : Thread Cert.CompressIdeal.nD Cert.CompressIdeal.τ).loc Cert.CompressIdeal.main_arg0)
      ∧ m' ((c.tc : Thread Cert.CompressReferenceIdeal.nD Cert.CompressReferenceIdeal.τ).loc Cert.CompressReferenceIdeal.main_arg1) = m ((c.tc : Thread Cert.CompressIdeal.nD Cert.CompressIdeal.τ).loc Cert.CompressIdeal.main_arg1)
      ∧ m' ((c.tc : Thread Cert.CompressReferenceIdeal.nD Cert.CompressReferenceIdeal.τ).loc Cert.CompressReferenceIdeal.main_arg2) = m ((c.tc : Thread Cert.CompressIdeal.nD Cert.CompressIdeal.τ).loc Cert.CompressIdeal.main_arg2)
      ∧ m' ((c.tc : Thread Cert.CompressReferenceIdeal.nD Cert.CompressReferenceIdeal.τ).loc Cert.CompressReferenceIdeal.main_arg3) = m ((c.tc : Thread Cert.CompressIdeal.nD Cert.CompressIdeal.τ).loc Cert.CompressIdeal.main_arg3)
      ∧ m' ((c.tc : Thread Cert.CompressReferenceIdeal.nD Cert.CompressReferenceIdeal.τ).loc Cert.CompressReferenceIdeal.main_arg4) = m ((c.tc : Thread Cert.CompressIdeal.nD Cert.CompressIdeal.τ).loc Cert.CompressIdeal.main_arg4)
      ∧ m' ((c.tc : Thread Cert.CompressReferenceIdeal.nD Cert.CompressReferenceIdeal.τ).loc Cert.CompressReferenceIdeal.main_arg5) = m ((c.tc : Thread Cert.CompressIdeal.nD Cert.CompressIdeal.τ).loc Cert.CompressIdeal.main_arg5)
      ∧ m' ((c.tc : Thread Cert.CompressReferenceIdeal.nD Cert.CompressReferenceIdeal.τ).loc Cert.CompressReferenceIdeal.main_arg6) = m ((c.tc : Thread Cert.CompressIdeal.nD Cert.CompressIdeal.τ).loc Cert.CompressIdeal.main_arg6)
      ∧ m' ((c.tc : Thread Cert.CompressReferenceIdeal.nD Cert.CompressReferenceIdeal.τ).loc Cert.CompressReferenceIdeal.main_arg7) = m ((c.tc : Thread Cert.CompressIdeal.nD Cert.CompressIdeal.τ).loc Cert.CompressIdeal.main_arg7)) →
    ∃ (v0 : (c : Dev Cert.CompressIdeal.nD) → Buf (Elt Ideal) ((c.tc : Thread Cert.CompressIdeal.nD Cert.CompressIdeal.τ).loc Cert.CompressIdeal.main_v16)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v16) = v0 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
          ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
          ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
          ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7))
      ∧ θ_run (Cert.CompressReferenceIdeal.defs (F := Ideal)) (onTc (τ := Cert.CompressReferenceIdeal.τ) (Cert.CompressReferenceIdeal.main (F := Ideal))) ⟨m', fun _ => 0, g'⟩ (fun r => ∀ c : Dev Cert.CompressReferenceIdeal.nD,
          r.2.mem ((c.tc : Thread Cert.CompressReferenceIdeal.nD Cert.CompressReferenceIdeal.τ).loc Cert.CompressReferenceIdeal.main_v43) = v0 c
          ∧ r.2.mem ((c.tc : Thread Cert.CompressReferenceIdeal.nD Cert.CompressReferenceIdeal.τ).loc Cert.CompressReferenceIdeal.main_arg0) = m' ((c.tc : Thread Cert.CompressReferenceIdeal.nD Cert.CompressReferenceIdeal.τ).loc Cert.CompressReferenceIdeal.main_arg0)
          ∧ r.2.mem ((c.tc : Thread Cert.CompressReferenceIdeal.nD Cert.CompressReferenceIdeal.τ).loc Cert.CompressReferenceIdeal.main_arg1) = m' ((c.tc : Thread Cert.CompressReferenceIdeal.nD Cert.CompressReferenceIdeal.τ).loc Cert.CompressReferenceIdeal.main_arg1)
          ∧ r.2.mem ((c.tc : Thread Cert.CompressReferenceIdeal.nD Cert.CompressReferenceIdeal.τ).loc Cert.CompressReferenceIdeal.main_arg2) = m' ((c.tc : Thread Cert.CompressReferenceIdeal.nD Cert.CompressReferenceIdeal.τ).loc Cert.CompressReferenceIdeal.main_arg2)
          ∧ r.2.mem ((c.tc : Thread Cert.CompressReferenceIdeal.nD Cert.CompressReferenceIdeal.τ).loc Cert.CompressReferenceIdeal.main_arg3) = m' ((c.tc : Thread Cert.CompressReferenceIdeal.nD Cert.CompressReferenceIdeal.τ).loc Cert.CompressReferenceIdeal.main_arg3)
          ∧ r.2.mem ((c.tc : Thread Cert.CompressReferenceIdeal.nD Cert.CompressReferenceIdeal.τ).loc Cert.CompressReferenceIdeal.main_arg4) = m' ((c.tc : Thread Cert.CompressReferenceIdeal.nD Cert.CompressReferenceIdeal.τ).loc Cert.CompressReferenceIdeal.main_arg4)
          ∧ r.2.mem ((c.tc : Thread Cert.CompressReferenceIdeal.nD Cert.CompressReferenceIdeal.τ).loc Cert.CompressReferenceIdeal.main_arg5) = m' ((c.tc : Thread Cert.CompressReferenceIdeal.nD Cert.CompressReferenceIdeal.τ).loc Cert.CompressReferenceIdeal.main_arg5)
          ∧ r.2.mem ((c.tc : Thread Cert.CompressReferenceIdeal.nD Cert.CompressReferenceIdeal.τ).loc Cert.CompressReferenceIdeal.main_arg6) = m' ((c.tc : Thread Cert.CompressReferenceIdeal.nD Cert.CompressReferenceIdeal.τ).loc Cert.CompressReferenceIdeal.main_arg6)
          ∧ r.2.mem ((c.tc : Thread Cert.CompressReferenceIdeal.nD Cert.CompressReferenceIdeal.τ).loc Cert.CompressReferenceIdeal.main_arg7) = m' ((c.tc : Thread Cert.CompressReferenceIdeal.nD Cert.CompressReferenceIdeal.τ).loc Cert.CompressReferenceIdeal.main_arg7))

def Claim : Prop :=
  ∃ (hBack : Cert.Back.Facts) (hBackIdeal : Cert.BackIdeal.Facts) (hBackReferenceIdeal : Cert.BackReferenceIdeal.Facts) (hKernel : Cert.Kernel.Facts) (hKernelIdeal : Cert.KernelIdeal.Facts) (hFront : Cert.Front.Facts) (hFrontIdeal : Cert.FrontIdeal.Facts) (hFrontReferenceIdeal : Cert.FrontReferenceIdeal.Facts) (hCompress : Cert.Compress.Facts) (hCompressIdeal : Cert.CompressIdeal.Facts) (hCompressReferenceIdeal : Cert.CompressReferenceIdeal.Facts),
    quiescent_Back (hBack := hBack)
    ∧ quiescent_BackIdeal (hBackIdeal := hBackIdeal)
    ∧ quiescent_BackReferenceIdeal (hBackReferenceIdeal := hBackReferenceIdeal)
    ∧ quiescent_Kernel (hKernel := hKernel)
    ∧ quiescent_KernelIdeal (hKernelIdeal := hKernelIdeal)
    ∧ quiescent_Front (hFront := hFront)
    ∧ quiescent_FrontIdeal (hFrontIdeal := hFrontIdeal)
    ∧ quiescent_FrontReferenceIdeal (hFrontReferenceIdeal := hFrontReferenceIdeal)
    ∧ quiescent_Compress (hCompress := hCompress)
    ∧ quiescent_CompressIdeal (hCompressIdeal := hCompressIdeal)
    ∧ quiescent_CompressReferenceIdeal (hCompressReferenceIdeal := hCompressReferenceIdeal)
    ∧ preserves_Back_BackIdeal
    ∧ algebraic_BackIdeal_BackReferenceIdeal (hBackIdeal := hBackIdeal) (hBackReferenceIdeal := hBackReferenceIdeal)
    ∧ preserves_Kernel_KernelIdeal
    ∧ preserves_Front_FrontIdeal
    ∧ algebraic_FrontIdeal_FrontReferenceIdeal (hFrontIdeal := hFrontIdeal) (hFrontReferenceIdeal := hFrontReferenceIdeal)
    ∧ preserves_Compress_CompressIdeal
    ∧ algebraic_CompressIdeal_CompressReferenceIdeal (hCompressIdeal := hCompressIdeal) (hCompressReferenceIdeal := hCompressReferenceIdeal)
-- ==== Back.lean ====
abbrev S16x2048x256 : Shape := ⟨3, ![16, 2048, 256]⟩
abbrev S16x2048x1024 : Shape := ⟨3, ![16, 2048, 1024]⟩
abbrev S4x1024x1024 : Shape := ⟨3, ![4, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S4x1x1024 : Shape := ⟨3, ![4, 1, 1024]⟩
abbrev S32768x256 : Shape := ⟨2, ![32768, 256]⟩
abbrev S32768x1024 : Shape := ⟨2, ![32768, 1024]⟩
abbrev S512x256 : Shape := ⟨2, ![512, 256]⟩
abbrev S512x1024 : Shape := ⟨2, ![512, 1024]⟩
abbrev S1x1024x1024 : Shape := ⟨3, ![1, 1024, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S256x256 : Shape := ⟨2, ![256, 256]⟩
abbrev S256x1024 : Shape := ⟨2, ![256, 1024]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩
abbrev S1x1024x1536 : Shape := ⟨3, ![1, 1024, 1536]⟩
abbrev S1024x1536 : Shape := ⟨2, ![1024, 1536]⟩
abbrev S512x1536 : Shape := ⟨2, ![512, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S512x1280 : Shape := ⟨2, ![512, 1280]⟩
abbrev S1x1280x1024 : Shape := ⟨3, ![1, 1280, 1024]⟩
abbrev S1280x1024 : Shape := ⟨2, ![1280, 1024]⟩
abbrev S512 : Shape := ⟨1, ![512]⟩
abbrev S512x1 : Shape := ⟨2, ![512, 1]⟩

abbrev nBuf : Space → Nat
  | .hbm => 23
  | .vmem => 18
  | .smem => 0
  | _ => 0

abbrev bufTy : (tb : Table) → Fin (tcTables nBuf tb) → BufTy
  | .hbm, ⟨0, _⟩ => ⟨S16x2048x256, .bf16⟩
  | .hbm, ⟨1, _⟩ => ⟨S16x2048x256, .bf16⟩
  | .hbm, ⟨2, _⟩ => ⟨S16x2048x256, .bf16⟩
  | .hbm, ⟨3, _⟩ => ⟨S16x2048x256, .bf16⟩
  | .hbm, ⟨4, _⟩ => ⟨S16x2048x1024, .f32⟩
  | .hbm, ⟨5, _⟩ => ⟨S4x1024x1024, .f32⟩
  | .hbm, ⟨6, _⟩ => ⟨S4x1024, .f32⟩
  | .hbm, ⟨7, _⟩ => ⟨S4x1024, .f32⟩
  | .hbm, ⟨8, _⟩ => ⟨S4x1024x5632, .f32⟩
  | .hbm, ⟨9, _⟩ => ⟨S4x2816x1024, .f32⟩
  | .hbm, ⟨10, _⟩ => ⟨S4x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1024x1024, .bf16⟩
  | .hbm, ⟨15, _⟩ => ⟨S4x1024x5632, .bf16⟩
  | .hbm, ⟨16, _⟩ => ⟨S4x2816x1024, .bf16⟩
  | .hbm, ⟨17, _⟩ => ⟨S32768x256, .bf16⟩
  | .hbm, ⟨18, _⟩ => ⟨S32768x256, .bf16⟩
  | .hbm, ⟨19, _⟩ => ⟨S32768x256, .bf16⟩
  | .hbm, ⟨20, _⟩ => ⟨S32768x256, .bf16⟩
  | .hbm, ⟨21, _⟩ => ⟨S32768x1024, .f32⟩
  | .hbm, ⟨22, _⟩ => ⟨S32768x1024, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x1024, .f32⟩
  | .local _ .vmem, ⟨9, _⟩ => ⟨S512x1024, .f32⟩
  | .local _ .vmem, ⟨10, _⟩ => ⟨S1x1024x1024, .bf16⟩
  | .local _ .vmem, ⟨11, _⟩ => ⟨S1x1x1024, .f32⟩
  | .local _ .vmem, ⟨12, _⟩ => ⟨S1x1x1024, .f32⟩
  | .local _ .vmem, ⟨13, _⟩ => ⟨S1x1024x5632, .bf16⟩
  | .local _ .vmem, ⟨14, _⟩ => ⟨S1x2816x1024, .bf16⟩
  | .local _ .vmem, ⟨15, _⟩ => ⟨S1x1x1024, .f32⟩
  | .local _ .vmem, ⟨16, _⟩ => ⟨S512x1024, .f32⟩
  | .local _ .vmem, ⟨17, _⟩ => ⟨S512x1024, .f32⟩
  | _, _ => ⟨S16x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== BackReferenceIdeal.lean ====
abbrev S16x2048x256 : Shape := ⟨3, ![16, 2048, 256]⟩
abbrev S16x2048x1024 : Shape := ⟨3, ![16, 2048, 1024]⟩
abbrev S4x1024x1024 : Shape := ⟨3, ![4, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S16x2048x5632 : Shape := ⟨3, ![16, 2048, 5632]⟩
abbrev S16x2048x2816 : Shape := ⟨3, ![16, 2048, 2816]⟩
abbrev S1x2816x1024 : Shape := ⟨3, ![1, 2816, 1024]⟩
abbrev S2816x1024 : Shape := ⟨2, ![2816, 1024]⟩
abbrev S32768x1024 : Shape := ⟨2, ![32768, 1024]⟩

abbrev nBuf : Space → Nat
  | .hbm => 94
  | .vmem => 0
  | .smem => 0
  | _ => 0

abbrev bufTy : (tb : Table) → Fin (tcTables nBuf tb) → BufTy
  | .hbm, ⟨0, _⟩ => ⟨S16x2048x256, .bf16⟩
  | .hbm, ⟨1, _⟩ => ⟨S16x2048x256, .bf16⟩
  | .hbm, ⟨2, _⟩ => ⟨S16x2048x256, .bf16⟩
  | .hbm, ⟨3, _⟩ => ⟨S16x2048x256, .bf16⟩
  | .hbm, ⟨4, _⟩ => ⟨S16x2048x1024, .f32⟩
  | .hbm, ⟨5, _⟩ => ⟨S4x1024x1024, .f32⟩
  | .hbm, ⟨6, _⟩ => ⟨S4x1024, .f32⟩
  | .hbm, ⟨7, _⟩ => ⟨S4x1024, .f32⟩
  | .hbm, ⟨8, _⟩ => ⟨S4x1024x5632, .f32⟩
  | .hbm, ⟨9, _⟩ => ⟨S4x2816x1024, .f32⟩
  | .hbm, ⟨10, _⟩ => ⟨S4x1024, .f32⟩
  | .hbm, ⟨11, _⟩ => ⟨S16x2048x256, .f32⟩
  | .hbm, ⟨12, _⟩ => ⟨S16x2048x256, .f32⟩
  | .hbm, ⟨13, _⟩ => ⟨S16x2048x256, .f32⟩
  | .hbm, ⟨14, _⟩ => ⟨S16x2048x256, .f32⟩
  | .hbm, ⟨15, _⟩ => ⟨S16x2048x1024, .f32⟩
  | .hbm, ⟨16, _⟩ => ⟨S1x1024x1024, .f32⟩
  | .hbm, ⟨17, _⟩ => ⟨S1024x1024, .f32⟩
  | .hbm, ⟨18, _⟩ => ⟨S16x2048x1024, .f32⟩
  | .hbm, ⟨19, _⟩ => ⟨S1x1024, .f32⟩
  | .hbm, ⟨20, _⟩ => ⟨S1024, .f32⟩
  | .hbm, ⟨21, _⟩ => ⟨S16x2048x1024, .f32⟩
  | .hbm, ⟨22, _⟩ => ⟨S_, .f32⟩
  | .hbm, ⟨23, _⟩ => ⟨S16x2048, .f32⟩
  | .hbm, ⟨24, _⟩ => ⟨S16x2048x1, .f32⟩
  | .hbm, ⟨25, _⟩ => ⟨S_, .f32⟩
  | .hbm, ⟨26, _⟩ => ⟨S16x2048x1, .f32⟩
  | .hbm, ⟨27, _⟩ => ⟨S16x2048x1, .f32⟩
  | .hbm, ⟨28, _⟩ => ⟨S_, .f32⟩
  | .hbm, ⟨29, _⟩ => ⟨S16x2048x1, .f32⟩
  | .hbm, ⟨30, _⟩ => ⟨S16x2048x1, .f32⟩
  | .hbm, ⟨31, _⟩ => ⟨S16x2048x1, .f32⟩
  | .hbm, ⟨32, _⟩ => ⟨S16x2048x1024, .f32⟩
  | .hbm, ⟨33, _⟩ => ⟨S16x2048x1024, .f32⟩
  | .hbm, ⟨34, _⟩ => ⟨S1x1x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S1x1024, .f32⟩
  | .hbm, ⟨39, _⟩ => ⟨S1024, .f32⟩
  | .hbm, ⟨40, _⟩ => ⟨S16x2048x1024, .f32⟩
  | .hbm, ⟨41, _⟩ => ⟨S_, .f32⟩
  | .hbm, ⟨42, _⟩ => ⟨S16x2048, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S_, .f32⟩
  | .hbm, ⟨48, _⟩ => ⟨S16x2048x1, .f32⟩
  | .hbm, ⟨49, _⟩ => ⟨S16x2048x1, .f32⟩
  | .hbm, ⟨50, _⟩ => ⟨S16x2048x1, .f32⟩
  | .hbm, ⟨51, _⟩ => ⟨S16x2048x1024, .f32⟩
  | .hbm, ⟨52, _⟩ => ⟨S16x2048x1024, .f32⟩
  | .hbm, ⟨53, _⟩ => ⟨S1x1x1024, .f32⟩
  | .hbm, ⟨54, _⟩ => ⟨S16x2048x1024, .f32⟩
  | .hbm, ⟨55, _⟩ => ⟨S16x2048x1024, .f32⟩
  | .hbm, ⟨56, _⟩ => ⟨S1x1024x5632, .f32⟩
  | .hbm, ⟨57, _⟩ => ⟨S1024x5632, .f32⟩
  | .hbm, ⟨58, _⟩ => ⟨S16x2048x5632, .f32⟩
  | .hbm, ⟨59, _⟩ => ⟨S16x2048x2816, .f32⟩
  | .hbm, ⟨60, _⟩ => ⟨S16x2048x2816, .f32⟩
  | .hbm, ⟨61, _⟩ => ⟨S16x2048x2816, .f32⟩
  | .hbm, ⟨62, _⟩ => ⟨S16x2048x2816, .f32⟩
  | .hbm, ⟨63, _⟩ => ⟨S_, .f32⟩
  | .hbm, ⟨64, _⟩ => ⟨S16x2048x2816, .f32⟩
  | .hbm, ⟨65, _⟩ => ⟨S16x2048x2816, .f32⟩
  | .hbm, ⟨66, _⟩ => ⟨S_, .f32⟩
  | .hbm, ⟨67, _⟩ => ⟨S16x2048x2816, .f32⟩
  | .hbm, ⟨68, _⟩ => ⟨S16x2048x2816, .f32⟩
  | .hbm, ⟨69, _⟩ => ⟨S16x2048x2816, .f32⟩
  | .hbm, ⟨70, _⟩ => ⟨S16x2048x2816, .f32⟩
  | .hbm, ⟨71, _⟩ => ⟨S1x2816x1024, .f32⟩
  | .hbm, ⟨72, _⟩ => ⟨S2816x1024, .f32⟩
  | .hbm, ⟨73, _⟩ => ⟨S16x2048x1024, .f32⟩
  | .hbm, ⟨74, _⟩ => ⟨S1x1024, .f32⟩
  | .hbm, ⟨75, _⟩ => ⟨S1024, .f32⟩
  | .hbm, ⟨76, _⟩ => ⟨S16x2048x1024, .f32⟩
  | .hbm, ⟨77, _⟩ => ⟨S_, .f32⟩
  | .hbm, ⟨78, _⟩ => ⟨S16x2048, .f32⟩
  | .hbm, ⟨79, _⟩ => ⟨S16x2048x1, .f32⟩
  | .hbm, ⟨80, _⟩ => ⟨S_, .f32⟩
  | .hbm, ⟨81, _⟩ => ⟨S16x2048x1, .f32⟩
  | .hbm, ⟨82, _⟩ => ⟨S16x2048x1, .f32⟩
  | .hbm, ⟨83, _⟩ => ⟨S_, .f32⟩
  | .hbm, ⟨84, _⟩ => ⟨S16x2048x1, .f32⟩
  | .hbm, ⟨85, _⟩ => ⟨S16x2048x1, .f32⟩
  | .hbm, ⟨86, _⟩ => ⟨S16x2048x1, .f32⟩
  | .hbm, ⟨87, _⟩ => ⟨S16x2048x1024, .f32⟩
  | .hbm, ⟨88, _⟩ => ⟨S16x2048x1024, .f32⟩
  | .hbm, ⟨89, _⟩ => ⟨S1x1x1024, .f32⟩
  | .hbm, ⟨90, _⟩ => ⟨S16x2048x1024, .f32⟩
  | .hbm, ⟨91, _⟩ => ⟨S16x2048x1024, .f32⟩
  | .hbm, ⟨92, _⟩ => ⟨S16x2048x1024, .f32⟩
  | .hbm, ⟨93, _⟩ => ⟨S32768x1024, .f32⟩
  | _, _ => ⟨S16x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_5 : Ref sig .tc := ⟨.hbm, 77, rfl⟩
abbrev main_v52 : Ref sig .tc := ⟨.hbm, 78, rfl⟩
abbrev main_v53 : Ref sig .tc := ⟨.hbm, 79, rfl⟩
abbrev main_cst_6 : Ref sig .tc := ⟨.hbm, 80, rfl⟩
abbrev main_v54 : Ref sig .tc := ⟨.hbm, 81, rfl⟩
abbrev main_v55 : Ref sig .tc := ⟨.hbm, 82, rfl⟩
abbrev main_cst_7 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩

abbrev nD : Nat := 1
abbrev τ : Topo := Topo.v7x

variable {F : FTy → Type} [FloatOps F]
-- ==== Kernel.lean ====
abbrev S16x2048x256 : Shape := ⟨3, ![16, 2048, 256]⟩
abbrev S16x2048x384 : Shape := ⟨3, ![16, 2048, 384]⟩
abbrev S16x2048x12 : Shape := ⟨3, ![16, 2048, 12]⟩
abbrev S16x127x64 : Shape := ⟨3, ![16, 127, 64]⟩
abbrev S_ : Shape := ⟨0, ![]⟩
abbrev S16x2048x116 : Shape := ⟨3, ![16, 2048, 116]⟩
abbrev S16x2048x512 : Shape := ⟨3, ![16, 2048, 512]⟩
abbrev S16x127x128 : Shape := ⟨3, ![16, 127, 128]⟩
abbrev S16x1x128 : Shape := ⟨3, ![16, 1, 128]⟩
abbrev S16x128x128 : Shape := ⟨3, ![16, 128, 128]⟩
abbrev S1x128x256 : Shape := ⟨3, ![1, 128, 256]⟩
abbrev S1x2048x512 : Shape := ⟨3, ![1, 2048, 512]⟩
abbrev S1x128x128 : Shape := ⟨3, ![1, 128, 128]⟩
abbrev S2048x128 : Shape := ⟨2, ![2048, 128]⟩
abbrev S128x2048 : Shape := ⟨2, ![128, 2048]⟩
abbrev S2048x256 : Shape := ⟨2, ![2048, 256]⟩
abbrev S2560x128 : Shape := ⟨2, ![2560, 128]⟩
abbrev S2560x256 : Shape := ⟨2, ![2560, 256]⟩
abbrev S128x1536 : Shape := ⟨2, ![128, 1536]⟩
abbrev S128x128 : Shape := ⟨2, ![128, 128]⟩
abbrev S512x128 : Shape := ⟨2, ![512, 128]⟩
abbrev S512x256 : Shape := ⟨2, ![512, 256]⟩
abbrev S256x128 : Shape := ⟨2, ![256, 128]⟩
abbrev S1x256x512 : Shape := ⟨3, ![1, 256, 512]⟩
abbrev S256x512 : Shape := ⟨2, ![256, 512]⟩
abbrev S256x256 : Shape := ⟨2, ![256, 256]⟩
abbrev S128x256 : Shape := ⟨2, ![128, 256]⟩
abbrev S128x1 : Shape := ⟨2, ![128, 1]⟩
abbrev S640x128 : Shape := ⟨2, ![640, 128]⟩
abbrev S512x640 : Shape := ⟨2, ![512, 640]⟩
abbrev S4x128x640 : Shape := ⟨3, ![4, 128, 640]⟩
abbrev S4x128x128 : Shape := ⟨3, ![4, 128, 128]⟩
abbrev S4x128x384 : Shape := ⟨3, ![4, 128, 384]⟩
abbrev S4x128 : Shape := ⟨2, ![4, 128]⟩
abbrev S4x128x1 : Shape := ⟨3, ![4, 128, 1]⟩
abbrev S640x256 : Shape := ⟨2, ![640, 256]⟩
abbrev S512 : Shape := ⟨1, ![512]⟩
abbrev S512x1 : Shape := ⟨2, ![512, 1]⟩
abbrev S1x128x1 : Shape := ⟨3, ![1, 128, 1]⟩
abbrev S32x128 : Shape := ⟨2, ![32, 128]⟩
abbrev S1x128 : Shape := ⟨2, ![1, 128]⟩
abbrev S64x128 : Shape := ⟨2, ![64, 128]⟩
abbrev S128x512 : Shape := ⟨2, ![128, 512]⟩
abbrev S512x512 : Shape := ⟨2, ![512, 512]⟩
abbrev S128x768 : Shape := ⟨2, ![128, 768]⟩
abbrev S768x256 : Shape := ⟨2, ![768, 256]⟩
abbrev S256x768 : Shape := ⟨2, ![256, 768]⟩
abbrev S512x768 : Shape := ⟨2, ![512, 768]⟩
abbrev S128x1024 : Shape := ⟨2, ![128, 1024]⟩
abbrev S1024x256 : Shape := ⟨2, ![1024, 256]⟩
abbrev S256x1024 : Shape := ⟨2, ![256, 1024]⟩
abbrev S512x1024 : Shape := ⟨2, ![512, 1024]⟩
abbrev S128x1280 : Shape := ⟨2, ![128, 1280]⟩
abbrev S1280x256 : Shape := ⟨2, ![1280, 256]⟩
abbrev S256x1280 : Shape := ⟨2, ![256, 1280]⟩
abbrev S512x1280 : Shape := ⟨2, ![512, 1280]⟩
abbrev S1536x256 : Shape := ⟨2, ![1536, 256]⟩
abbrev S256x1536 : Shape := ⟨2, ![256, 1536]⟩
abbrev S512x1536 : Shape := ⟨2, ![512, 1536]⟩
abbrev S128x1792 : Shape := ⟨2, ![128, 1792]⟩
abbrev S1792x256 : Shape := ⟨2, ![1792, 256]⟩
abbrev S256x1792 : Shape := ⟨2, ![256, 1792]⟩
abbrev S512x1792 : Shape := ⟨2, ![512, 1792]⟩
abbrev S256x2048 : Shape := ⟨2, ![256, 2048]⟩
abbrev S512x2048 : Shape := ⟨2, ![512, 2048]⟩

abbrev nBuf : Space → Nat
  | .hbm => 13
  | .vmem => 14
  | .smem => 0
  | _ => 0

abbrev bufTy : (tb : Table) → Fin (tcTables nBuf tb) → BufTy
  | .hbm, ⟨0, _⟩ => ⟨S16x2048x256, .f32⟩
  | .hbm, ⟨1, _⟩ => ⟨S16x2048x384, .f32⟩
  | .hbm, ⟨2, _⟩ => ⟨S16x2048x12, .f32⟩
  | .hbm, ⟨3, _⟩ => ⟨S16x127x64, .f32⟩
  | .hbm, ⟨4, _⟩ => ⟨S16x127x64, .f32⟩
  | .hbm, ⟨5, _⟩ => ⟨S_, .f32⟩
  | .hbm, ⟨6, _⟩ => ⟨S16x2048x116, .f32⟩
  | .hbm, ⟨7, _⟩ => ⟨S16x2048x512, .f32⟩
  | .hbm, ⟨8, _⟩ => ⟨S16x127x128, .f32⟩
  | .hbm, ⟨9, _⟩ => ⟨S_, .f32⟩
  | .hbm, ⟨10, _⟩ => ⟨S16x1x128, .f32⟩
  | .hbm, ⟨11, _⟩ => ⟨S16x128x128, .f32⟩
  | .hbm, ⟨12, _⟩ => ⟨S16x2048x256, .bf16⟩
  | .local _ .vmem, ⟨0, _⟩ => ⟨S1x128x256, .f32⟩
  | .local _ .vmem, ⟨1, _⟩ => ⟨S1x128x256, .f32⟩
  | .local _ .vmem, ⟨2, _⟩ => ⟨S1x2048x512, .f32⟩
  | .local _ .vmem, ⟨3, _⟩ => ⟨S1x2048x512, .f32⟩
  | .local _ .vmem, ⟨4, _⟩ => ⟨S1x128x128, .f32⟩
  | .local _ .vmem, ⟨5, _⟩ => ⟨S1x128x128, .f32⟩
  | .local _ .vmem, ⟨6, _⟩ => ⟨S1x128x256, .bf16⟩
  | .local _ .vmem, ⟨7, _⟩ => ⟨S1x128x256, .bf16⟩
  | .local _ .vmem, ⟨8, _⟩ => ⟨S2048x128, .bf16⟩
  | .local _ .vmem, ⟨9, _⟩ => ⟨S128x2048, .bf16⟩
  | .local _ .vmem, ⟨10, _⟩ => ⟨S2048x256, .bf16⟩
  | .local _ .vmem, ⟨11, _⟩ => ⟨S2560x128, .bf16⟩
  | .local _ .vmem, ⟨12, _⟩ => ⟨S2560x256, .bf16⟩
  | .local _ .vmem, ⟨13, _⟩ => ⟨S128x1536, .bf16⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c2_i32 : BitVec 32 := 2#32
  let v3 : BitVec 32 := Scalar.addi arg1 c2_i32
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c2_i32_1 : BitVec 32 := 2#32
  let c0_i32_4 : BitVec 32 := 0#32
  let v11 : BitVec 1 := Scalar.cmpi .sgt c2_i32_1 c0_i32_4
  let v12 : BitVec 32 := Scalar.extui v11
  let c0_i32_5 : BitVec 32 := 0#32
  let v13 : BitVec 1 := Scalar.cmpi .slt c2_i32_1 c0_i32_5
  let v14 : BitVec 32 := Scalar.extui v13
  let v15 : BitVec 32 := Scalar.subi v12 v14
  let v16 : BitVec 1 := Scalar.cmpi .ne v10 v15
  let v17 : BitVec 32 := Scalar.remsi v4 c2_i32_1
  let c0_i32_6 : BitVec 32 := 0#32
  let v18 : BitVec 1 := Scalar.cmpi .ne v17 c0_i32_6
  let v19 : BitVec 1 := Scalar.andi v16 v18
  let v5 : BitVec 32 := Scalar.divsi v4 c2_i32_1
  let c1_i32_7 : BitVec 32 := 1#32
  let v20 : BitVec 32 := Scalar.subi v5 c1_i32_7
  let v21 : BitVec 32 := Scalar.select v19 v20 v5
  let c0_i32_8 : BitVec 32 := 0#32
  let v22 : BitVec 1 := Scalar.cmpi .eq v21 c0_i32_8
  let v23 : BitVec 32 := Scalar.extui v22
  let c0_i32_9 : BitVec 32 := 0#32
  let v24 : BitVec 1 := Scalar.cmpi .ne v23 c0_i32_9
  v24

def k0_mult1 (i : grid0.Coords) : BitVec 32 :=
  let arg1 : BitVec 32 := BitVec.ofNat 32 (i 1).val
  let c128_i32 : BitVec 32 := 128#32
  let v52 : BitVec 32 := Scalar.muli arg1 c128_i32
  v52
def k0_off1 (i : grid0.Coords) : Fin 2 → Nat :=
  let arg1 : BitVec 32 := BitVec.ofNat 32 (i 1).val
  let c128_i32 : BitVec 32 := 128#32
  let v52 : BitVec 32 := Scalar.muli arg1 c128_i32
  let v53 : BitVec 32 := v52
  let v93 : Index := Scalar.indexCast v53
  let c0_31 : Index := 0#32
  ![v93.toNat, 0]
def k0_off2 (i : grid0.Coords) : Fin 2 → Nat :=
  let arg1 : BitVec 32 := BitVec.ofNat 32 (i 1).val
  let c128_i32 : BitVec 32 := 128#32
  let v52 : BitVec 32 := Scalar.muli arg1 c128_i32
  let v53 : BitVec 32 := v52
  let v116 : Index := Scalar.indexCast v53
  let c0_36 : Index := 0#32
  ![v116.toNat, 0]
def k0_off3 (i : grid0.Coords) : Fin 2 → Nat :=
  let arg1 : BitVec 32 := BitVec.ofNat 32 (i 1).val
  let c128_i32 : BitVec 32 := 128#32
  let v52 : BitVec 32 := Scalar.muli arg1 c128_i32
  let v53 : BitVec 32 := v52
  let v133 : Index := Scalar.indexCast v53
  let c0_46 : Index := 0#32
  ![v133.toNat, 0]
def k0_off4 (i : grid0.Coords) : Fin 2 → Nat :=
  let arg1 : BitVec 32 := BitVec.ofNat 32 (i 1).val
  let c128_i32 : BitVec 32 := 128#32
  let v52 : BitVec 32 := Scalar.muli arg1 c128_i32
  let v53 : BitVec 32 := v52
  let v184 : Index := Scalar.indexCast v53
  let c0_57 : Index := 0#32
  ![v184.toNat, 0]
def k0_off5 (i : grid0.Coords) : Fin 3 → Nat :=
  let c0_59 : Index := 0#32
  let arg1 : BitVec 32 := BitVec.ofNat 32 (i 1).val
  let c128_i32 : BitVec 32 := 128#32
  let v52 : BitVec 32 := Scalar.muli arg1 c128_i32
  let v53 : BitVec 32 := v52
  let v187 : Index := Scalar.indexCast v53
  let c384 : Index := 384#32
  ![0, v187.toNat, 384]
def k0_cond3 (i : grid0.Coords) : BitVec 1 :=
  let arg1 : BitVec 32 := BitVec.ofNat 32 (i 1).val
  let c2_i32 : BitVec 32 := 2#32
  let v3 : BitVec 32 := Scalar.addi arg1 c2_i32
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c2_i32_1 : BitVec 32 := 2#32
  let c0_i32_4 : BitVec 32 := 0#32
  let v11 : BitVec 1 := Scalar.cmpi .sgt c2_i32_1 c0_i32_4
  let v12 : BitVec 32 := Scalar.extui v11
  let c0_i32_5 : BitVec 32 := 0#32
  let v13 : BitVec 1 := Scalar.cmpi .slt c2_i32_1 c0_i32_5
  let v14 : BitVec 32 := Scalar.extui v13
  let v15 : BitVec 32 := Scalar.subi v12 v14
  let v16 : BitVec 1 := Scalar.cmpi .ne v10 v15
  let v17 : BitVec 32 := Scalar.remsi v4 c2_i32_1
  let c0_i32_6 : BitVec 32 := 0#32
  let v18 : BitVec 1 := Scalar.cmpi .ne v17 c0_i32_6
  let v19 : BitVec 1 := Scalar.andi v16 v18
  let v5 : BitVec 32 := Scalar.divsi v4 c2_i32_1
  let c1_i32_7 : BitVec 32 := 1#32
  let v20 : BitVec 32 := Scalar.subi v5 c1_i32_7
  let v21 : BitVec 32 := Scalar.select v19 v20 v5
  let c1_i32_10 : BitVec 32 := 1#32
  let v25 : BitVec 1 := Scalar.cmpi .eq v21 c1_i32_10
  let v26 : BitVec 32 := Scalar.extui v25
  let c0_i32_11 : BitVec 32 := 0#32
  let v27 : BitVec 1 := Scalar.cmpi .ne v26 c0_i32_11
  v27

def k0_mult2 (i : grid0.Coords) : BitVec 32 :=
  let arg1 : BitVec 32 := BitVec.ofNat 32 (i 1).val
  let c128_i32 : BitVec 32 := 128#32
  let v59 : BitVec 32 := Scalar.muli arg1 c128_i32
  v59
def k0_off6 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v114 : Index := Scalar.indexCast v60
  let c0_41 : Index := 0#32
  ![v114.toNat, 0]
def k0_off7 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v161 : Index := Scalar.indexCast v60
  let c0_52 : Index := 0#32
  ![v161.toNat, 0]
def k0_off8 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v184 : Index := Scalar.indexCast v60
  let c0_57 : Index := 0#32
  ![v184.toNat, 0]
def k0_off9 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v726 : Index := Scalar.indexCast v60
  let c0_180 : Index := 0#32
  ![v726.toNat, 0]
def k0_off10 (i : grid0.Coords) : Fin 3 → Nat :=
  let c0_185 : Index := 0#32
  let arg1 : BitVec 32 := BitVec.ofNat 32 (i 1).val
  let c128_i32 : BitVec 32 := 128#32
  let v59 : BitVec 32 := Scalar.muli arg1 c128_i32
  let v60 : BitVec 32 := v59
  let v743 : Index := Scalar.indexCast v60
  let c384 : Index := 384#32
  ![0, v743.toNat, 384]
def k0_cond4 (i : grid0.Coords) : BitVec 1 :=
  let arg1 : BitVec 32 := BitVec.ofNat 32 (i 1).val
  let c2_i32 : BitVec 32 := 2#32
  let v3 : BitVec 32 := Scalar.addi arg1 c2_i32
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c2_i32_1 : BitVec 32 := 2#32
  let c0_i32_4 : BitVec 32 := 0#32
  let v11 : BitVec 1 := Scalar.cmpi .sgt c2_i32_1 c0_i32_4
  let v12 : BitVec 32 := Scalar.extui v11
  let c0_i32_5 : BitVec 32 := 0#32
  let v13 : BitVec 1 := Scalar.cmpi .slt c2_i32_1 c0_i32_5
  let v14 : BitVec 32 := Scalar.extui v13
  let v15 : BitVec 32 := Scalar.subi v12 v14
  let v16 : BitVec 1 := Scalar.cmpi .ne v10 v15
  let v17 : BitVec 32 := Scalar.remsi v4 c2_i32_1
  let c0_i32_6 : BitVec 32 := 0#32
  let v18 : BitVec 1 := Scalar.cmpi .ne v17 c0_i32_6
  let v19 : BitVec 1 := Scalar.andi v16 v18
  let v5 : BitVec 32 := Scalar.divsi v4 c2_i32_1
  let c1_i32_7 : BitVec 32 := 1#32
  let v20 : BitVec 32 := Scalar.subi v5 c1_i32_7
  let v21 : BitVec 32 := Scalar.select v19 v20 v5
  let c2_i32_12 : BitVec 32 := 2#32
  let v28 : BitVec 1 := Scalar.cmpi .eq v21 c2_i32_12
  let v29 : BitVec 32 := Scalar.extui v28
  let c0_i32_13 : BitVec 32 := 0#32
  let v30 : BitVec 1 := Scalar.cmpi .ne v29 c0_i32_13
  v30

def k0_mult3 (i : grid0.Coords) : BitVec 32 :=
  let arg1 : BitVec 32 := BitVec.ofNat 32 (i 1).val
  let c128_i32 : BitVec 32 := 128#32
  let v59 : BitVec 32 := Scalar.muli arg1 c128_i32
  v59
def k0_off11 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v114 : Index := Scalar.indexCast v60
  let c0_41 : Index := 0#32
  ![v114.toNat, 0]
def k0_off12 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v161 : Index := Scalar.indexCast v60
  let c0_52 : Index := 0#32
  ![v161.toNat, 0]
def k0_off13 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v184 : Index := Scalar.indexCast v60
  let c0_57 : Index := 0#32
  ![v184.toNat, 0]
def k0_off14 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v726 : Index := Scalar.indexCast v60
  let c0_180 : Index := 0#32
  ![v726.toNat, 0]
def k0_off15 (i : grid0.Coords) : Fin 3 → Nat :=
  let c0_185 : Index := 0#32
  let arg1 : BitVec 32 := BitVec.ofNat 32 (i 1).val
  let c128_i32 : BitVec 32 := 128#32
  let v59 : BitVec 32 := Scalar.muli arg1 c128_i32
  let v60 : BitVec 32 := v59
  let v743 : Index := Scalar.indexCast v60
  let c384 : Index := 384#32
  ![0, v743.toNat, 384]
def k0_cond5 (i : grid0.Coords) : BitVec 1 :=
  let arg1 : BitVec 32 := BitVec.ofNat 32 (i 1).val
  let c2_i32 : BitVec 32 := 2#32
  let v3 : BitVec 32 := Scalar.addi arg1 c2_i32
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c2_i32_1 : BitVec 32 := 2#32
  let c0_i32_4 : BitVec 32 := 0#32
  let v11 : BitVec 1 := Scalar.cmpi .sgt c2_i32_1 c0_i32_4
  let v12 : BitVec 32 := Scalar.extui v11
  let c0_i32_5 : BitVec 32 := 0#32
  let v13 : BitVec 1 := Scalar.cmpi .slt c2_i32_1 c0_i32_5
  let v14 : BitVec 32 := Scalar.extui v13
  let v15 : BitVec 32 := Scalar.subi v12 v14
  let v16 : BitVec 1 := Scalar.cmpi .ne v10 v15
  let v17 : BitVec 32 := Scalar.remsi v4 c2_i32_1
  let c0_i32_6 : BitVec 32 := 0#32
  let v18 : BitVec 1 := Scalar.cmpi .ne v17 c0_i32_6
  let v19 : BitVec 1 := Scalar.andi v16 v18
  let v5 : BitVec 32 := Scalar.divsi v4 c2_i32_1
  let c1_i32_7 : BitVec 32 := 1#32
  let v20 : BitVec 32 := Scalar.subi v5 c1_i32_7
  let v21 : BitVec 32 := Scalar.select v19 v20 v5
  let c3_i32 : BitVec 32 := 3#32
  let v31 : BitVec 1 := Scalar.cmpi .eq v21 c3_i32
  let v32 : BitVec 32 := Scalar.extui v31
  let c0_i32_14 : BitVec 32 := 0#32
  let v33 : BitVec 1 := Scalar.cmpi .ne v32 c0_i32_14
  v33

def k0_mult4 (i : grid0.Coords) : BitVec 32 :=
  let arg1 : BitVec 32 := BitVec.ofNat 32 (i 1).val
  let c128_i32 : BitVec 32 := 128#32
  let v59 : BitVec 32 := Scalar.muli arg1 c128_i32
  v59
def k0_off16 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v114 : Index := Scalar.indexCast v60
  let c0_41 : Index := 0#32
  ![v114.toNat, 0]
def k0_off17 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v161 : Index := Scalar.indexCast v60
  let c0_52 : Index := 0#32
  ![v161.toNat, 0]
def k0_off18 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v184 : Index := Scalar.indexCast v60
  let c0_57 : Index := 0#32
  ![v184.toNat, 0]
def k0_off19 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v726 : Index := Scalar.indexCast v60
  let c0_180 : Index := 0#32
  ![v726.toNat, 0]
def k0_off20 (i : grid0.Coords) : Fin 3 → Nat :=
  let c0_187 : Index := 0#32
  let arg1 : BitVec 32 := BitVec.ofNat 32 (i 1).val
  let c128_i32 : BitVec 32 := 128#32
  let v59 : BitVec 32 := Scalar.muli arg1 c128_i32
  let v60 : BitVec 32 := v59
  let v751 : Index := Scalar.indexCast v60
  let c384 : Index := 384#32
  ![0, v751.toNat, 384]
def k0_cond6 (i : grid0.Coords) : BitVec 1 :=
  let arg1 : BitVec 32 := BitVec.ofNat 32 (i 1).val
  let c2_i32 : BitVec 32 := 2#32
  let v3 : BitVec 32 := Scalar.addi arg1 c2_i32
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c2_i32_1 : BitVec 32 := 2#32
  let c0_i32_4 : BitVec 32 := 0#32
  let v11 : BitVec 1 := Scalar.cmpi .sgt c2_i32_1 c0_i32_4
  let v12 : BitVec 32 := Scalar.extui v11
  let c0_i32_5 : BitVec 32 := 0#32
  let v13 : BitVec 1 := Scalar.cmpi .slt c2_i32_1 c0_i32_5
  let v14 : BitVec 32 := Scalar.extui v13
  let v15 : BitVec 32 := Scalar.subi v12 v14
  let v16 : BitVec 1 := Scalar.cmpi .ne v10 v15
  let v17 : BitVec 32 := Scalar.remsi v4 c2_i32_1
  let c0_i32_6 : BitVec 32 := 0#32
  let v18 : BitVec 1 := Scalar.cmpi .ne v17 c0_i32_6
  let v19 : BitVec 1 := Scalar.andi v16 v18
  let v5 : BitVec 32 := Scalar.divsi v4 c2_i32_1
  let c1_i32_7 : BitVec 32 := 1#32
  let v20 : BitVec 32 := Scalar.subi v5 c1_i32_7
  let v21 : BitVec 32 := Scalar.select v19 v20 v5
  let c4_i32 : BitVec 32 := 4#32
  let v34 : BitVec 1 := Scalar.cmpi .eq v21 c4_i32
  let v35 : BitVec 32 := Scalar.extui v34
  let c0_i32_15 : BitVec 32 := 0#32
  let v36 : BitVec 1 := Scalar.cmpi .ne v35 c0_i32_15
  v36

def k0_mult5 (i : grid0.Coords) : BitVec 32 :=
  let arg1 : BitVec 32 := BitVec.ofNat 32 (i 1).val
  let c128_i32 : BitVec 32 := 128#32
  let v59 : BitVec 32 := Scalar.muli arg1 c128_i32
  v59
def k0_off21 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v114 : Index := Scalar.indexCast v60
  let c0_41 : Index := 0#32
  ![v114.toNat, 0]
def k0_off22 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v161 : Index := Scalar.indexCast v60
  let c0_52 : Index := 0#32
  ![v161.toNat, 0]
def k0_off23 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v184 : Index := Scalar.indexCast v60
  let c0_57 : Index := 0#32
  ![v184.toNat, 0]
def k0_off24 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v726 : Index := Scalar.indexCast v60
  let c0_180 : Index := 0#32
  ![v726.toNat, 0]
def k0_off25 (i : grid0.Coords) : Fin 3 → Nat :=
  let c0_187 : Index := 0#32
  let arg1 : BitVec 32 := BitVec.ofNat 32 (i 1).val
  let c128_i32 : BitVec 32 := 128#32
  let v59 : BitVec 32 := Scalar.muli arg1 c128_i32
  let v60 : BitVec 32 := v59
  let v751 : Index := Scalar.indexCast v60
  let c384 : Index := 384#32
  ![0, v751.toNat, 384]
def k0_cond7 (i : grid0.Coords) : BitVec 1 :=
  let arg1 : BitVec 32 := BitVec.ofNat 32 (i 1).val
  let c2_i32 : BitVec 32 := 2#32
  let v3 : BitVec 32 := Scalar.addi arg1 c2_i32
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c2_i32_1 : BitVec 32 := 2#32
  let c0_i32_4 : BitVec 32 := 0#32
  let v11 : BitVec 1 := Scalar.cmpi .sgt c2_i32_1 c0_i32_4
  let v12 : BitVec 32 := Scalar.extui v11
  let c0_i32_5 : BitVec 32 := 0#32
  let v13 : BitVec 1 := Scalar.cmpi .slt c2_i32_1 c0_i32_5
  let v14 : BitVec 32 := Scalar.extui v13
  let v15 : BitVec 32 := Scalar.subi v12 v14
  let v16 : BitVec 1 := Scalar.cmpi .ne v10 v15
  let v17 : BitVec 32 := Scalar.remsi v4 c2_i32_1
  let c0_i32_6 : BitVec 32 := 0#32
  let v18 : BitVec 1 := Scalar.cmpi .ne v17 c0_i32_6
  let v19 : BitVec 1 := Scalar.andi v16 v18
  let v5 : BitVec 32 := Scalar.divsi v4 c2_i32_1
  let c1_i32_7 : BitVec 32 := 1#32
  let v20 : BitVec 32 := Scalar.subi v5 c1_i32_7
  let v21 : BitVec 32 := Scalar.select v19 v20 v5
  let c5_i32 : BitVec 32 := 5#32
  let v37 : BitVec 1 := Scalar.cmpi .eq v21 c5_i32
  let v38 : BitVec 32 := Scalar.extui v37
  let c0_i32_16 : BitVec 32 := 0#32
  let v39 : BitVec 1 := Scalar.cmpi .ne v38 c0_i32_16
  v39

def k0_mult6 (i : grid0.Coords) : BitVec 32 :=
  let arg1 : BitVec 32 := BitVec.ofNat 32 (i 1).val
  let c128_i32 : BitVec 32 := 128#32
  let v59 : BitVec 32 := Scalar.muli arg1 c128_i32
  v59
def k0_off26 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v100 : Index := Scalar.indexCast v60
  let c0_33 : Index := 0#32
  ![v100.toNat, 0]
def k0_off27 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v123 : Index := Scalar.indexCast v60
  let c0_38 : Index := 0#32
  ![v123.toNat, 0]
def k0_off28 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v140 : Index := Scalar.indexCast v60
  let c0_48 : Index := 0#32
  ![v140.toNat, 0]
def k0_off29 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v726 : Index := Scalar.indexCast v60
  let c0_180 : Index := 0#32
  ![v726.toNat, 0]
def k0_off30 (i : grid0.Coords) : Fin 3 → Nat :=
  let c0_187 : Index := 0#32
  let arg1 : BitVec 32 := BitVec.ofNat 32 (i 1).val
  let c128_i32 : BitVec 32 := 128#32
  let v59 : BitVec 32 := Scalar.muli arg1 c128_i32
  let v60 : BitVec 32 := v59
  let v751 : Index := Scalar.indexCast v60
  let c384 : Index := 384#32
  ![0, v751.toNat, 384]
def k0_cond8 (i : grid0.Coords) : BitVec 1 :=
  let arg1 : BitVec 32 := BitVec.ofNat 32 (i 1).val
  let c2_i32 : BitVec 32 := 2#32
  let v3 : BitVec 32 := Scalar.addi arg1 c2_i32
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c2_i32_1 : BitVec 32 := 2#32
  let c0_i32_4 : BitVec 32 := 0#32
  let v11 : BitVec 1 := Scalar.cmpi .sgt c2_i32_1 c0_i32_4
  let v12 : BitVec 32 := Scalar.extui v11
  let c0_i32_5 : BitVec 32 := 0#32
  let v13 : BitVec 1 := Scalar.cmpi .slt c2_i32_1 c0_i32_5
  let v14 : BitVec 32 := Scalar.extui v13
  let v15 : BitVec 32 := Scalar.subi v12 v14
  let v16 : BitVec 1 := Scalar.cmpi .ne v10 v15
  let v17 : BitVec 32 := Scalar.remsi v4 c2_i32_1
  let c0_i32_6 : BitVec 32 := 0#32
  let v18 : BitVec 1 := Scalar.cmpi .ne v17 c0_i32_6
  let v19 : BitVec 1 := Scalar.andi v16 v18
  let v5 : BitVec 32 := Scalar.divsi v4 c2_i32_1
  let c1_i32_7 : BitVec 32 := 1#32
  let v20 : BitVec 32 := Scalar.subi v5 c1_i32_7
  let v21 : BitVec 32 := Scalar.select v19 v20 v5
  let c6_i32 : BitVec 32 := 6#32
  let v40 : BitVec 1 := Scalar.cmpi .eq v21 c6_i32
  let v41 : BitVec 32 := Scalar.extui v40
  let c0_i32_17 : BitVec 32 := 0#32
  let v42 : BitVec 1 := Scalar.cmpi .ne v41 c0_i32_17
  v42

def k0_mult7 (i : grid0.Coords) : BitVec 32 :=
  let arg1 : BitVec 32 := BitVec.ofNat 32 (i 1).val
  let c128_i32 : BitVec 32 := 128#32
  let v59 : BitVec 32 := Scalar.muli arg1 c128_i32
  v59
def k0_off31 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v100 : Index := Scalar.indexCast v60
  let c0_33 : Index := 0#32
  ![v100.toNat, 0]
def k0_off32 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v123 : Index := Scalar.indexCast v60
  let c0_38 : Index := 0#32
  ![v123.toNat, 0]
def k0_off33 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v140 : Index := Scalar.indexCast v60
  let c0_48 : Index := 0#32
  ![v140.toNat, 0]
def k0_off34 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v726 : Index := Scalar.indexCast v60
  let c0_180 : Index := 0#32
  ![v726.toNat, 0]
def k0_off35 (i : grid0.Coords) : Fin 3 → Nat :=
  let c0_187 : Index := 0#32
  let arg1 : BitVec 32 := BitVec.ofNat 32 (i 1).val
  let c128_i32 : BitVec 32 := 128#32
  let v59 : BitVec 32 := Scalar.muli arg1 c128_i32
  let v60 : BitVec 32 := v59
  let v751 : Index := Scalar.indexCast v60
  let c384 : Index := 384#32
  ![0, v751.toNat, 384]
def k0_cond9 (i : grid0.Coords) : BitVec 1 :=
  let arg1 : BitVec 32 := BitVec.ofNat 32 (i 1).val
  let c2_i32 : BitVec 32 := 2#32
  let v3 : BitVec 32 := Scalar.addi arg1 c2_i32
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c2_i32_1 : BitVec 32 := 2#32
  let c0_i32_4 : BitVec 32 := 0#32
  let v11 : BitVec 1 := Scalar.cmpi .sgt c2_i32_1 c0_i32_4
  let v12 : BitVec 32 := Scalar.extui v11
  let c0_i32_5 : BitVec 32 := 0#32
  let v13 : BitVec 1 := Scalar.cmpi .slt c2_i32_1 c0_i32_5
  let v14 : BitVec 32 := Scalar.extui v13
  let v15 : BitVec 32 := Scalar.subi v12 v14
  let v16 : BitVec 1 := Scalar.cmpi .ne v10 v15
  let v17 : BitVec 32 := Scalar.remsi v4 c2_i32_1
  let c0_i32_6 : BitVec 32 := 0#32
  let v18 : BitVec 1 := Scalar.cmpi .ne v17 c0_i32_6
  let v19 : BitVec 1 := Scalar.andi v16 v18
  let v5 : BitVec 32 := Scalar.divsi v4 c2_i32_1
  let c1_i32_7 : BitVec 32 := 1#32
  let v20 : BitVec 32 := Scalar.subi v5 c1_i32_7
  let v21 : BitVec 32 := Scalar.select v19 v20 v5
  let c7_i32 : BitVec 32 := 7#32
  let v43 : BitVec 1 := Scalar.cmpi .eq v21 c7_i32
  let v44 : BitVec 32 := Scalar.extui v43
  let c0_i32_18 : BitVec 32 := 0#32
  let v45 : BitVec 1 := Scalar.cmpi .ne v44 c0_i32_18
  v45

def k0_mult8 (i : grid0.Coords) : BitVec 32 :=
  let arg1 : BitVec 32 := BitVec.ofNat 32 (i 1).val
  let c128_i32 : BitVec 32 := 128#32
  let v59 : BitVec 32 := Scalar.muli arg1 c128_i32
  v59
def k0_off36 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v100 : Index := Scalar.indexCast v60
  let c0_33 : Index := 0#32
  ![v100.toNat, 0]
def k0_off37 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v123 : Index := Scalar.indexCast v60
  let c0_38 : Index := 0#32
  ![v123.toNat, 0]
def k0_off38 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v140 : Index := Scalar.indexCast v60
  let c0_48 : Index := 0#32
  ![v140.toNat, 0]
def k0_off39 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v726 : Index := Scalar.indexCast v60
  let c0_180 : Index := 0#32
  ![v726.toNat, 0]
def k0_off40 (i : grid0.Coords) : Fin 3 → Nat :=
  let c0_187 : Index := 0#32
  let arg1 : BitVec 32 := BitVec.ofNat 32 (i 1).val
  let c128_i32 : BitVec 32 := 128#32
  let v59 : BitVec 32 := Scalar.muli arg1 c128_i32
  let v60 : BitVec 32 := v59
  let v751 : Index := Scalar.indexCast v60
  let c384 : Index := 384#32
  ![0, v751.toNat, 384]
def k0_cond10 (i : grid0.Coords) : BitVec 1 :=
  let arg1 : BitVec 32 := BitVec.ofNat 32 (i 1).val
  let c2_i32 : BitVec 32 := 2#32
  let v3 : BitVec 32 := Scalar.addi arg1 c2_i32
  let c1_i32 : BitVec 32 := 1#32
  let v4 : BitVec 32 := Scalar.subi v3 c1_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c2_i32_1 : BitVec 32 := 2#32
  let c0_i32_4 : BitVec 32 := 0#32
  let v11 : BitVec 1 := Scalar.cmpi .sgt c2_i32_1 c0_i32_4
  let v12 : BitVec 32 := Scalar.extui v11
  let c0_i32_5 : BitVec 32 := 0#32
  let v13 : BitVec 1 := Scalar.cmpi .slt c2_i32_1 c0_i32_5
  let v14 : BitVec 32 := Scalar.extui v13
  let v15 : BitVec 32 := Scalar.subi v12 v14
  let v16 : BitVec 1 := Scalar.cmpi .ne v10 v15
  let v17 : BitVec 32 := Scalar.remsi v4 c2_i32_1
  let c0_i32_6 : BitVec 32 := 0#32
  let v18 : BitVec 1 := Scalar.cmpi .ne v17 c0_i32_6
  let v19 : BitVec 1 := Scalar.andi v16 v18
  let v5 : BitVec 32 := Scalar.divsi v4 c2_i32_1
  let c1_i32_7 : BitVec 32 := 1#32
  let v20 : BitVec 32 := Scalar.subi v5 c1_i32_7
  let v21 : BitVec 32 := Scalar.select v19 v20 v5
  let c8_i32 : BitVec 32 := 8#32
  let v46 : BitVec 1 := Scalar.cmpi .eq v21 c8_i32
  let v47 : BitVec 32 := Scalar.extui v46
  let c0_i32_19 : BitVec 32 := 0#32
  let v48 : BitVec 1 := Scalar.cmpi .ne v47 c0_i32_19
  v48

def k0_mult9 (i : grid0.Coords) : BitVec 32 :=
  let arg1 : BitVec 32 := BitVec.ofNat 32 (i 1).val
  let c128_i32 : BitVec 32 := 128#32
  let v59 : BitVec 32 := Scalar.muli arg1 c128_i32
  v59
def k0_off41 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v100 : Index := Scalar.indexCast v60
  let c0_33 : Index := 0#32
  ![v100.toNat, 0]
def k0_off42 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v123 : Index := Scalar.indexCast v60
  let c0_38 : Index := 0#32
  ![v123.toNat, 0]
def k0_off43 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v140 : Index := Scalar.indexCast v60
  let c0_48 : Index := 0#32
  ![v140.toNat, 0]
def k0_off44 (i : grid0.Coords) : Fin 2 → Nat :=
  let arg1 : BitVec 32 := BitVec.ofNat 32 (i 1).val
  let c128_i32 : BitVec 32 := 128#32
  let v59 : BitVec 32 := Scalar.muli arg1 c128_i32
  let v60 : BitVec 32 := v59
  let v726 : Index := Scalar.indexCast v60
  let c0_180 : Index := 0#32
  ![v726.toNat, 0]
def k0_off45 (i : grid0.Coords) : Fin 3 → Nat :=
  let c0_187 : Index := 0#32
  let arg1 : BitVec 32 := BitVec.ofNat 32 (i 1).val
  let c128_i32 : BitVec 32 := 128#32
  let v59 : BitVec 32 := Scalar.muli arg1 c128_i32
  let v60 : BitVec 32 := v59
  let v751 : Index := Scalar.indexCast v60
  let c384 : Index := 384#32
  ![0, v751.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Front.lean ====
abbrev S16x2048x1024 : Shape := ⟨3, ![16, 2048, 1024]⟩
abbrev S4x1024 : Shape := ⟨2, ![4, 1024]⟩
abbrev S4x1024x1932 : Shape := ⟨3, ![4, 1024, 1932]⟩
abbrev S4x256 : Shape := ⟨2, ![4, 256]⟩
abbrev S4x4x128x128 : Shape := ⟨4, ![4, 4, 128, 128]⟩
abbrev S4x4x128 : Shape := ⟨3, ![4, 4, 128]⟩
abbrev S4x31x256 : Shape := ⟨3, ![4, 31, 256]⟩
abbrev S4x256x256 : Shape := ⟨3, ![4, 256, 256]⟩
abbrev S4x4x64x64 : Shape := ⟨4, ![4, 4, 64, 64]⟩
abbrev S4x1024x1280 : Shape := ⟨3, ![4, 1024, 1280]⟩
abbrev S4x1024x256 : Shape := ⟨3, ![4, 1024, 256]⟩
abbrev S4x1024x396 : Shape := ⟨3, ![4, 1024, 396]⟩
abbrev S_ : Shape := ⟨0, ![]⟩
abbrev S4x1024x116 : Shape := ⟨3, ![4, 1024, 116]⟩
abbrev S4x1024x2048 : Shape := ⟨3, ![4, 1024, 2048]⟩
abbrev S4x1x1024 : Shape := ⟨3, ![4, 1, 1024]⟩
abbrev S4x1x256 : Shape := ⟨3, ![4, 1, 256]⟩
abbrev S4x128x4x128 : Shape := ⟨4, ![4, 128, 4, 128]⟩
abbrev S4x128x512 : Shape := ⟨3, ![4, 128, 512]⟩
abbrev S4x128x4 : Shape := ⟨3, ![4, 128, 4]⟩
abbrev S4x128x4x64 : Shape := ⟨4, ![4, 128, 4, 64]⟩
abbrev S4x128x256 : Shape := ⟨3, ![4, 128, 256]⟩
abbrev S4x1x64x64 : Shape := ⟨4, ![4, 1, 64, 64]⟩
abbrev S4x64x64 : Shape := ⟨3, ![4, 64, 64]⟩
abbrev S4x64x256 : Shape := ⟨3, ![4, 64, 256]⟩
abbrev S16x2048x256 : Shape := ⟨3, ![16, 2048, 256]⟩
abbrev S16x2048x512 : Shape := ⟨3, ![16, 2048, 512]⟩
abbrev S1x1024x1024 : Shape := ⟨3, ![1, 1024, 1024]⟩
abbrev S1x1x1024 : Shape := ⟨3, ![1, 1, 1024]⟩
abbrev S1x1024x2048 : Shape := ⟨3, ![1, 1024, 2048]⟩
abbrev S1x1x256 : Shape := ⟨3, ![1, 1, 256]⟩
abbrev S1x128x512 : Shape := ⟨3, ![1, 128, 512]⟩
abbrev S1x128x256 : Shape := ⟨3, ![1, 128, 256]⟩
abbrev S1x31x256 : Shape := ⟨3, ![1, 31, 256]⟩
abbrev S1x256x256 : Shape := ⟨3, ![1, 256, 256]⟩
abbrev S1x1024x256 : Shape := ⟨3, ![1, 1024, 256]⟩
abbrev S1x1024x512 : Shape := ⟨3, ![1, 1024, 512]⟩
abbrev S8x1056x256 : Shape := ⟨3, ![8, 1056, 256]⟩
abbrev S1048x256 : Shape := ⟨2, ![1048, 256]⟩
abbrev S16x256 : Shape := ⟨2, ![16, 256]⟩
abbrev S31x256 : Shape := ⟨2, ![31, 256]⟩
abbrev S1x256 : Shape := ⟨2, ![1, 256]⟩
abbrev S256x256 : Shape := ⟨2, ![256, 256]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩
abbrev S1024x512 : Shape := ⟨2, ![1024, 512]⟩
abbrev S1x32x256 : Shape := ⟨3, ![1, 32, 256]⟩
abbrev S32x256 : Shape := ⟨2, ![32, 256]⟩
abbrev S64x512 : Shape := ⟨2, ![64, 512]⟩
abbrev S64x256 : Shape := ⟨2, ![64, 256]⟩
abbrev S1x64x256 : Shape := ⟨3, ![1, 64, 256]⟩
abbrev S128x256 : Shape := ⟨2, ![128, 256]⟩
abbrev S1x24x256 : Shape := ⟨3, ![1, 24, 256]⟩
abbrev S24x256 : Shape := ⟨2, ![24, 256]⟩
abbrev S64 : Shape := ⟨1, ![64]⟩
abbrev S64x1 : Shape := ⟨2, ![64, 1]⟩
abbrev S1024x256 : Shape := ⟨2, ![1024, 256]⟩
abbrev S8x256 : Shape := ⟨2, ![8, 256]⟩
abbrev S128x512 : Shape := ⟨2, ![128, 512]⟩
abbrev S128 : Shape := ⟨1, ![128]⟩
abbrev S128x1 : Shape := ⟨2, ![128, 1]⟩
abbrev S512x256 : Shape := ⟨2, ![512, 256]⟩

abbrev nBuf : Space → Nat
  | .hbm => 77
  | .vmem => 30
  | .smem => 0
  | _ => 0

abbrev bufTy : (tb : Table) → Fin (tcTables nBuf tb) → BufTy
  | .hbm, ⟨0, _⟩ => ⟨S16x2048x1024, .f32⟩
  | .hbm, ⟨1, _⟩ => ⟨S4x1024, .f32⟩
  | .hbm, ⟨2, _⟩ => ⟨S4x1024x1932, .f32⟩
  | .hbm, ⟨3, _⟩ => ⟨S4x256, .f32⟩
  | .hbm, ⟨4, _⟩ => ⟨S4x4x128x128, .f32⟩
  | .hbm, ⟨5, _⟩ => ⟨S4x4x128, .f32⟩
  | .hbm, ⟨6, _⟩ => ⟨S4x31x256, .f32⟩
  | .hbm, ⟨7, _⟩ => ⟨S4x256, .f32⟩
  | .hbm, ⟨8, _⟩ => ⟨S4x256, .f32⟩
  | .hbm, ⟨9, _⟩ => ⟨S4x256, .f32⟩
  | .hbm, ⟨10, _⟩ => ⟨S4x256x256, .f32⟩
  | .hbm, ⟨11, _⟩ => ⟨S4x256, .f32⟩
  | .hbm, ⟨12, _⟩ => ⟨S4x4x64x64, .f32⟩
  | .hbm, ⟨13, _⟩ => ⟨S4x256, .f32⟩
  | .hbm, ⟨14, _⟩ => ⟨S4x1024x1280, .f32⟩
  | .hbm, ⟨15, _⟩ => ⟨S4x1024x256, .f32⟩
  | .hbm, ⟨16, _⟩ => ⟨S4x1024x396, .f32⟩
  | .hbm, ⟨17, _⟩ => ⟨S_, .f32⟩
  | .hbm, ⟨18, _⟩ => ⟨S4x1024x116, .f32⟩
  | .hbm, ⟨19, _⟩ => ⟨S4x1024x2048, .f32⟩
  | .hbm, ⟨20, _⟩ => ⟨S4x1x1024, .f32⟩
  | .hbm, ⟨21, _⟩ => ⟨S4x1024x2048, .bf16⟩
  | .hbm, ⟨22, _⟩ => ⟨S4x1x256, .f32⟩
  | .hbm, ⟨23, _⟩ => ⟨S4x128x4x128, .f32⟩
  | .hbm, ⟨24, _⟩ => ⟨S4x128x512, .f32⟩
  | .hbm, ⟨25, _⟩ => ⟨S4x128x4, .f32⟩
  | .hbm, ⟨26, _⟩ => ⟨S4x128x4x64, .f32⟩
  | .hbm, ⟨27, _⟩ => ⟨S4x128x256, .f32⟩
  | .hbm, ⟨28, _⟩ => ⟨S4x1x256, .f32⟩
  | .hbm, ⟨29, _⟩ => ⟨S4x1x256, .f32⟩
  | .hbm, ⟨30, _⟩ => ⟨S4x1x256, .f32⟩
  | .hbm, ⟨31, _⟩ => ⟨S4x256x256, .bf16⟩
  | .hbm, ⟨32, _⟩ => ⟨S4x1x256, .f32⟩
  | .hbm, ⟨33, _⟩ => ⟨S4x1x64x64, .f32⟩
  | .hbm, ⟨34, _⟩ => ⟨S4x64x64, .f32⟩
  | .hbm, ⟨35, _⟩ => ⟨S4x1x64x64, .f32⟩
  | .hbm, ⟨36, _⟩ => ⟨S4x64x64, .f32⟩
  | .hbm, ⟨37, _⟩ => ⟨S4x1x64x64, .f32⟩
  | .hbm, ⟨38, _⟩ => ⟨S4x64x64, .f32⟩
  | .hbm, ⟨39, _⟩ => ⟨S4x1x64x64, .f32⟩
  | .hbm, ⟨40, _⟩ => ⟨S4x64x64, .f32⟩
  | .hbm, ⟨41, _⟩ => ⟨S_, .f32⟩
  | .hbm, ⟨42, _⟩ => ⟨S4x64x64, .f32⟩
  | .hbm, ⟨43, _⟩ => ⟨S_, .f32⟩
  | .hbm, ⟨44, _⟩ => ⟨S4x64x64, .f32⟩
  | .hbm, ⟨45, _⟩ => ⟨S_, .f32⟩
  | .hbm, ⟨46, _⟩ => ⟨S4x64x64, .f32⟩
  | .hbm, ⟨47, _⟩ => ⟨S4x64x256, .f32⟩
  | .hbm, ⟨48, _⟩ => ⟨S_, .f32⟩
  | .hbm, ⟨49, _⟩ => ⟨S4x64x64, .f32⟩
  | .hbm, ⟨50, _⟩ => ⟨S_, .f32⟩
  | .hbm, ⟨51, _⟩ => ⟨S4x64x64, .f32⟩
  | .hbm, ⟨52, _⟩ => ⟨S_, .f32⟩
  | .hbm, ⟨53, _⟩ => ⟨S4x64x64, .f32⟩
  | .hbm, ⟨54, _⟩ => ⟨S4x64x256, .f32⟩
  | .hbm, ⟨55, _⟩ => ⟨S_, .f32⟩
  | .hbm, ⟨56, _⟩ => ⟨S4x64x64, .f32⟩
  | .hbm, ⟨57, _⟩ => ⟨S_, .f32⟩
  | .hbm, ⟨58, _⟩ => ⟨S4x64x64, .f32⟩
  | .hbm, ⟨59, _⟩ => ⟨S_, .f32⟩
  | .hbm, ⟨60, _⟩ => ⟨S4x64x64, .f32⟩
  | .hbm, ⟨61, _⟩ => ⟨S4x64x256, .f32⟩
  | .hbm, ⟨62, _⟩ => ⟨S_, .f32⟩
  | .hbm, ⟨63, _⟩ => ⟨S4x64x64, .f32⟩
  | .hbm, ⟨64, _⟩ => ⟨S_, .f32⟩
  | .hbm, ⟨65, _⟩ => ⟨S4x64x64, .f32⟩
  | .hbm, ⟨66, _⟩ => ⟨S_, .f32⟩
  | .hbm, ⟨67, _⟩ => ⟨S4x64x64, .f32⟩
  | .hbm, ⟨68, _⟩ => ⟨S4x64x256, .f32⟩
  | .hbm, ⟨69, _⟩ => ⟨S4x256x256, .f32⟩
  | .hbm, ⟨70, _⟩ => ⟨S4x256x256, .bf16⟩
  | .hbm, ⟨71, _⟩ => ⟨S4x1x256, .f32⟩
  | .hbm, ⟨72, _⟩ => ⟨S16x2048x256, .bf16⟩
  | .hbm, ⟨73, _⟩ => ⟨S16x2048x256, .bf16⟩
  | .hbm, ⟨74, _⟩ => ⟨S16x2048x256, .bf16⟩
  | .hbm, ⟨75, _⟩ => ⟨S16x2048x256, .f32⟩
  | .hbm, ⟨76, _⟩ => ⟨S16x2048x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1024x2048, .bf16⟩
  | .local _ .vmem, ⟨4, _⟩ => ⟨S1x1x256, .f32⟩
  | .local _ .vmem, ⟨5, _⟩ => ⟨S1x128x512, .f32⟩
  | .local _ .vmem, ⟨6, _⟩ => ⟨S1x128x256, .f32⟩
  | .local _ .vmem, ⟨7, _⟩ => ⟨S1x31x256, .f32⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S1x256x256, .bf16⟩
  | .local _ .vmem, ⟨12, _⟩ => ⟨S1x1x256, .f32⟩
  | .local _ .vmem, ⟨13, _⟩ => ⟨S1x256x256, .bf16⟩
  | .local _ .vmem, ⟨14, _⟩ => ⟨S1x1x256, .f32⟩
  | .local _ .vmem, ⟨15, _⟩ => ⟨S1x1024x256, .bf16⟩
  | .local _ .vmem, ⟨16, _⟩ => ⟨S1x1024x256, .bf16⟩
  | .local _ .vmem, ⟨17, _⟩ => ⟨S1x1024x256, .bf16⟩
  | .local _ .vmem, ⟨18, _⟩ => ⟨S1x1024x256, .bf16⟩
  | .local _ .vmem, ⟨19, _⟩ => ⟨S1x1024x256, .bf16⟩
  | .local _ .vmem, ⟨20, _⟩ => ⟨S1x1024x256, .bf16⟩
  | .local _ .vmem, ⟨21, _⟩ => ⟨S1x1024x256, .f32⟩
  | .local _ .vmem, ⟨22, _⟩ => ⟨S1x1024x256, .f32⟩
  | .local _ .vmem, ⟨23, _⟩ => ⟨S1x1024x512, .f32⟩
  | .local _ .vmem, ⟨24, _⟩ => ⟨S1x1024x512, .f32⟩
  | .local _ .vmem, ⟨25, _⟩ => ⟨S8x1056x256, .f32⟩
  | .local _ .vmem, ⟨26, _⟩ => ⟨S1048x256, .f32⟩
  | .local _ .vmem, ⟨27, _⟩ => ⟨S1048x256, .f32⟩
  | .local _ .vmem, ⟨28, _⟩ => ⟨S1048x256, .f32⟩
  | .local _ .vmem, ⟨29, _⟩ => ⟨S1048x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_0 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_cst_9 : Ref sig .tc := ⟨.hbm, 62, rfl⟩
abbrev main_v38 : Ref sig .tc := ⟨.hbm, 63, rfl⟩
abbrev main_cst_10 : Ref sig .tc := ⟨.hbm, 64, rfl⟩
abbrev main_v39 : Ref sig .tc := ⟨.hbm, 65, rfl⟩
abbrev main_cst_11 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45_0 : Ref sig .tc := ⟨.hbm, 72, rfl⟩
abbrev main_v45_1 : Ref sig .tc := ⟨.hbm, 73, rfl⟩
abbrev main_v45_2 : Ref sig .tc := ⟨.hbm, 74, rfl⟩
abbrev main_v45_3 : Ref sig .tc := ⟨.hbm, 75, rfl⟩
abbrev main_v45_4 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== FrontReferenceIdeal.lean ====
abbrev S16x2048x1024 : Shape := ⟨3, ![16, 2048, 1024]⟩
abbrev S4x1024 : Shape := ⟨2, ![4, 1024]⟩
abbrev S4x1024x1932 : Shape := ⟨3, ![4, 1024, 1932]⟩
abbrev S4x256 : Shape := ⟨2, ![4, 256]⟩
abbrev S4x4x128x128 : Shape := ⟨4, ![4, 4, 128, 128]⟩
abbrev S4x4x128 : Shape := ⟨3, ![4, 4, 128]⟩
abbrev S4x31x256 : Shape := ⟨3, ![4, 31, 256]⟩
abbrev S4x256x256 : Shape := ⟨3, ![4, 256, 256]⟩
abbrev S4x4x64x64 : Shape := ⟨4, ![4, 4, 64, 64]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x1932 : Shape := ⟨3, ![1, 1024, 1932]⟩
abbrev S1024x1932 : Shape := ⟨2, ![1024, 1932]⟩
abbrev S16x2048x1932 : Shape := ⟨3, ![16, 2048, 1932]⟩
abbrev S16x2048x256 : Shape := ⟨3, ![16, 2048, 256]⟩
abbrev S16x2048x384 : Shape := ⟨3, ![16, 2048, 384]⟩
abbrev S16x2048x12 : Shape := ⟨3, ![16, 2048, 12]⟩
abbrev S1x256 : Shape := ⟨2, ![1, 256]⟩
abbrev S256 : Shape := ⟨1, ![256]⟩
abbrev S1x4x128x128 : Shape := ⟨4, ![1, 4, 128, 128]⟩
abbrev S4x128x128 : Shape := ⟨3, ![4, 128, 128]⟩
abbrev S1x4x128 : Shape := ⟨3, ![1, 4, 128]⟩
abbrev S4x128 : Shape := ⟨2, ![4, 128]⟩
abbrev S1x1x256 : Shape := ⟨3, ![1, 1, 256]⟩
abbrev S16x16x128x4x64 : Shape := ⟨5, ![16, 16, 128, 4, 64]⟩
abbrev S128x128 : Shape := ⟨2, ![128, 128]⟩
abbrev S4x16x16x64x128 : Shape := ⟨5, ![4, 16, 16, 64, 128]⟩
abbrev S128x4 : Shape := ⟨2, ![128, 4]⟩
abbrev S1x1x128x4x1 : Shape := ⟨5, ![1, 1, 128, 4, 1]⟩
abbrev S16x2048x396 : Shape := ⟨3, ![16, 2048, 396]⟩
abbrev S16x2048x512 : Shape := ⟨3, ![16, 2048, 512]⟩

abbrev nBuf : Space → Nat
  | .hbm => 102
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S4x1024, .f32⟩
  | .hbm, ⟨2, _⟩ => ⟨S4x1024x1932, .f32⟩
  | .hbm, ⟨3, _⟩ => ⟨S4x256, .f32⟩
  | .hbm, ⟨4, _⟩ => ⟨S4x4x128x128, .f32⟩
  | .hbm, ⟨5, _⟩ => ⟨S4x4x128, .f32⟩
  | .hbm, ⟨6, _⟩ => ⟨S4x31x256, .f32⟩
  | .hbm, ⟨7, _⟩ => ⟨S4x256, .f32⟩
  | .hbm, ⟨8, _⟩ => ⟨S4x256, .f32⟩
  | .hbm, ⟨9, _⟩ => ⟨S4x256, .f32⟩
  | .hbm, ⟨10, _⟩ => ⟨S4x256x256, .f32⟩
  | .hbm, ⟨11, _⟩ => ⟨S4x256, .f32⟩
  | .hbm, ⟨12, _⟩ => ⟨S4x4x64x64, .f32⟩
  | .hbm, ⟨13, _⟩ => ⟨S4x256, .f32⟩
  | .hbm, ⟨14, _⟩ => ⟨S1x1024, .f32⟩
  | .hbm, ⟨15, _⟩ => ⟨S1024, .f32⟩
  | .hbm, ⟨16, _⟩ => ⟨S16x2048x1024, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1, .f32⟩
  | .hbm, ⟨27, _⟩ => ⟨S16x2048x1024, .f32⟩
  | .hbm, ⟨28, _⟩ => ⟨S16x2048x1024, .f32⟩
  | .hbm, ⟨29, _⟩ => ⟨S1x1x1024, .f32⟩
  | .hbm, ⟨30, _⟩ => ⟨S16x2048x1024, .f32⟩
  | .hbm, ⟨31, _⟩ => ⟨S16x2048x1024, .f32⟩
  | .hbm, ⟨32, _⟩ => ⟨S1x1024x1932, .f32⟩
  | .hbm, ⟨33, _⟩ => ⟨S1024x1932, .f32⟩
  | .hbm, ⟨34, _⟩ => ⟨S16x2048x1932, .f32⟩
  | .hbm, ⟨35, _⟩ => ⟨S16x2048x256, .f32⟩
  | .hbm, ⟨36, _⟩ => ⟨S16x2048x256, .f32⟩
  | .hbm, ⟨37, _⟩ => ⟨S16x2048x256, .f32⟩
  | .hbm, ⟨38, _⟩ => ⟨S16x2048x256, .f32⟩
  | .hbm, ⟨39, _⟩ => ⟨S16x2048x256, .f32⟩
  | .hbm, ⟨40, _⟩ => ⟨S16x2048x384, .f32⟩
  | .hbm, ⟨41, _⟩ => ⟨S16x2048x12, .f32⟩
  | .hbm, ⟨42, _⟩ => ⟨S16x2048x256, .f32⟩
  | .hbm, ⟨43, _⟩ => ⟨S1x256, .f32⟩
  | .hbm, ⟨44, _⟩ => ⟨S256, .f32⟩
  | .hbm, ⟨45, _⟩ => ⟨S1x4x128x128, .f32⟩
  | .hbm, ⟨46, _⟩ => ⟨S4x128x128, .f32⟩
  | .hbm, ⟨47, _⟩ => ⟨S1x4x128, .f32⟩
  | .hbm, ⟨48, _⟩ => ⟨S4x128, .f32⟩
  | .hbm, ⟨49, _⟩ => ⟨S_, .f32⟩
  | .hbm, ⟨50, _⟩ => ⟨S16x2048, .f32⟩
  | .hbm, ⟨51, _⟩ => ⟨S16x2048x1, .f32⟩
  | .hbm, ⟨52, _⟩ => ⟨S_, .f32⟩
  | .hbm, ⟨53, _⟩ => ⟨S16x2048x1, .f32⟩
  | .hbm, ⟨54, _⟩ => ⟨S16x2048x1, .f32⟩
  | .hbm, ⟨55, _⟩ => ⟨S16x2048x256, .f32⟩
  | .hbm, ⟨56, _⟩ => ⟨S16x2048x256, .f32⟩
  | .hbm, ⟨57, _⟩ => ⟨S16x2048x256, .f32⟩
  | .hbm, ⟨58, _⟩ => ⟨S_, .f32⟩
  | .hbm, ⟨59, _⟩ => ⟨S16x2048, .f32⟩
  | .hbm, ⟨60, _⟩ => ⟨S16x2048x1, .f32⟩
  | .hbm, ⟨61, _⟩ => ⟨S_, .f32⟩
  | .hbm, ⟨62, _⟩ => ⟨S16x2048x1, .f32⟩
  | .hbm, ⟨63, _⟩ => ⟨S16x2048x1, .f32⟩
  | .hbm, ⟨64, _⟩ => ⟨S16x2048x256, .f32⟩
  | .hbm, ⟨65, _⟩ => ⟨S16x2048x256, .f32⟩
  | .hbm, ⟨66, _⟩ => ⟨S_, .f32⟩
  | .hbm, ⟨67, _⟩ => ⟨S16x2048x1, .f32⟩
  | .hbm, ⟨68, _⟩ => ⟨S16x2048x1, .f32⟩
  | .hbm, ⟨69, _⟩ => ⟨S16x2048x1, .f32⟩
  | .hbm, ⟨70, _⟩ => ⟨S16x2048x256, .f32⟩
  | .hbm, ⟨71, _⟩ => ⟨S16x2048x256, .f32⟩
  | .hbm, ⟨72, _⟩ => ⟨S1x1x256, .f32⟩
  | .hbm, ⟨73, _⟩ => ⟨S16x2048x256, .f32⟩
  | .hbm, ⟨74, _⟩ => ⟨S16x2048x256, .f32⟩
  | .hbm, ⟨75, _⟩ => ⟨S_, .f32⟩
  | .hbm, ⟨76, _⟩ => ⟨S16x2048x256, .f32⟩
  | .hbm, ⟨77, _⟩ => ⟨S16x2048x256, .f32⟩
  | .hbm, ⟨78, _⟩ => ⟨S16x16x128x4x64, .f32⟩
  | .hbm, ⟨79, _⟩ => ⟨S128x128, .i32⟩
  | .hbm, ⟨80, _⟩ => ⟨S_, .i32⟩
  | .hbm, ⟨81, _⟩ => ⟨S128x128, .i32⟩
  | .hbm, ⟨82, _⟩ => ⟨S128x128, .i32⟩
  | .hbm, ⟨83, _⟩ => ⟨S128x128, .i32⟩
  | .hbm, ⟨84, _⟩ => ⟨S128x128, .i1⟩
  | .hbm, ⟨85, _⟩ => ⟨S4x128x128, .i1⟩
  | .hbm, ⟨86, _⟩ => ⟨S_, .f32⟩
  | .hbm, ⟨87, _⟩ => ⟨S4x128x128, .f32⟩
  | .hbm, ⟨88, _⟩ => ⟨S4x128x128, .f32⟩
  | .hbm, ⟨89, _⟩ => ⟨S4x16x16x64x128, .f32⟩
  | .hbm, ⟨90, _⟩ => ⟨S16x16x128x4x64, .f32⟩
  | .hbm, ⟨91, _⟩ => ⟨S128x4, .f32⟩
  | .hbm, ⟨92, _⟩ => ⟨S1x1x128x4x1, .f32⟩
  | .hbm, ⟨93, _⟩ => ⟨S16x16x128x4x64, .f32⟩
  | .hbm, ⟨94, _⟩ => ⟨S16x16x128x4x64, .f32⟩
  | .hbm, ⟨95, _⟩ => ⟨S16x2048x256, .f32⟩
  | .hbm, ⟨96, _⟩ => ⟨S16x2048x256, .f32⟩
  | .hbm, ⟨97, _⟩ => ⟨S16x2048x396, .f32⟩
  | .hbm, ⟨98, _⟩ => ⟨S_, .i32⟩
  | .hbm, ⟨99, _⟩ => ⟨S_, .f32⟩
  | .hbm, ⟨100, _⟩ => ⟨S16x2048x512, .f32⟩
  | .hbm, ⟨101, _⟩ => ⟨S16x2048x256, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_4 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call0_v0 : Ref sig .tc := ⟨.hbm, 79, rfl⟩
abbrev main_call0_c : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_cst : Ref sig .tc := ⟨.hbm, 86, rfl⟩
abbrev main_call0_v6 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c : Ref sig .tc := ⟨.hbm, 98, rfl⟩
abbrev main_call1_v0 : Ref sig .tc := ⟨.hbm, 99, rfl⟩
abbrev main_v66 : Ref sig .tc := ⟨.hbm, 100, rfl⟩
abbrev main_v67 : Ref sig .tc := ⟨.hbm, 101, rfl⟩

abbrev nD : Nat := 1
abbrev τ : Topo := Topo.v7x

variable {F : FTy → Type} [FloatOps F]
-- ==== Compress.lean ====
abbrev S16x2048x384 : Shape := ⟨3, ![16, 2048, 384]⟩
abbrev S16x2048x12 : Shape := ⟨3, ![16, 2048, 12]⟩
abbrev S4x32x64 : Shape := ⟨3, ![4, 32, 64]⟩
abbrev S4x2048x64 : Shape := ⟨3, ![4, 2048, 64]⟩
abbrev S4x64x64 : Shape := ⟨3, ![4, 64, 64]⟩
abbrev S_ : Shape := ⟨0, ![]⟩
abbrev S16x2048x116 : Shape := ⟨3, ![16, 2048, 116]⟩
abbrev S16x2048x512 : Shape := ⟨3, ![16, 2048, 512]⟩
abbrev S4x32x128 : Shape := ⟨3, ![4, 32, 128]⟩
abbrev S4x32x64x64 : Shape := ⟨4, ![4, 32, 64, 64]⟩
abbrev S4x32x64x128 : Shape := ⟨4, ![4, 32, 64, 128]⟩
abbrev S4x32x128x128 : Shape := ⟨4, ![4, 32, 128, 128]⟩
abbrev S4x64x128 : Shape := ⟨3, ![4, 64, 128]⟩
abbrev S4x128x128 : Shape := ⟨3, ![4, 128, 128]⟩
abbrev S16x128x128 : Shape := ⟨3, ![16, 128, 128]⟩
abbrev S4x2048x128 : Shape := ⟨3, ![4, 2048, 128]⟩
abbrev S1x32x128 : Shape := ⟨3, ![1, 32, 128]⟩
abbrev S1x32x128x128 : Shape := ⟨4, ![1, 32, 128, 128]⟩
abbrev S1x128x128 : Shape := ⟨3, ![1, 128, 128]⟩
abbrev S512x128 : Shape := ⟨2, ![512, 128]⟩
abbrev S128x128 : Shape := ⟨2, ![128, 128]⟩
abbrev S1x1x128 : Shape := ⟨3, ![1, 1, 128]⟩
abbrev S1x128 : Shape := ⟨2, ![1, 128]⟩
abbrev S1x1x128x128 : Shape := ⟨4, ![1, 1, 128, 128]⟩

abbrev nBuf : Space → Nat
  | .hbm => 29
  | .vmem => 7
  | .smem => 0
  | _ => 0

abbrev bufTy : (tb : Table) → Fin (tcTables nBuf tb) → BufTy
  | .hbm, ⟨0, _⟩ => ⟨S16x2048x384, .f32⟩
  | .hbm, ⟨1, _⟩ => ⟨S16x2048x12, .f32⟩
  | .hbm, ⟨2, _⟩ => ⟨S4x32x64, .f32⟩
  | .hbm, ⟨3, _⟩ => ⟨S4x32x64, .f32⟩
  | .hbm, ⟨4, _⟩ => ⟨S4x2048x64, .f32⟩
  | .hbm, ⟨5, _⟩ => ⟨S4x64x64, .f32⟩
  | .hbm, ⟨6, _⟩ => ⟨S4x2048x64, .f32⟩
  | .hbm, ⟨7, _⟩ => ⟨S4x64x64, .f32⟩
  | .hbm, ⟨8, _⟩ => ⟨S_, .f32⟩
  | .hbm, ⟨9, _⟩ => ⟨S16x2048x116, .f32⟩
  | .hbm, ⟨10, _⟩ => ⟨S16x2048x512, .f32⟩
  | .hbm, ⟨11, _⟩ => ⟨S4x32x128, .f32⟩
  | .hbm, ⟨12, _⟩ => ⟨S_, .f32⟩
  | .hbm, ⟨13, _⟩ => ⟨S4x32x64x64, .f32⟩
  | .hbm, ⟨14, _⟩ => ⟨S4x32x64x64, .f32⟩
  | .hbm, ⟨15, _⟩ => ⟨S4x32x64x64, .f32⟩
  | .hbm, ⟨16, _⟩ => ⟨S4x32x64x128, .f32⟩
  | .hbm, ⟨17, _⟩ => ⟨S4x32x64x128, .f32⟩
  | .hbm, ⟨18, _⟩ => ⟨S4x32x128x128, .f32⟩
  | .hbm, ⟨19, _⟩ => ⟨S4x32x128x128, .bf16⟩
  | .hbm, ⟨20, _⟩ => ⟨S_, .f32⟩
  | .hbm, ⟨21, _⟩ => ⟨S4x64x64, .f32⟩
  | .hbm, ⟨22, _⟩ => ⟨S4x64x128, .f32⟩
  | .hbm, ⟨23, _⟩ => ⟨S_, .f32⟩
  | .hbm, ⟨24, _⟩ => ⟨S4x64x64, .f32⟩
  | .hbm, ⟨25, _⟩ => ⟨S4x64x128, .f32⟩
  | .hbm, ⟨26, _⟩ => ⟨S4x128x128, .f32⟩
  | .hbm, ⟨27, _⟩ => ⟨S4x128x128, .bf16⟩
  | .hbm, ⟨28, _⟩ => ⟨S16x128x128, .f32⟩
  | .local _ .vmem, ⟨0, _⟩ => ⟨S4x2048x128, .f32⟩
  | .local _ .vmem, ⟨1, _⟩ => ⟨S4x2048x128, .f32⟩
  | .local _ .vmem, ⟨2, _⟩ => ⟨S1x32x128, .f32⟩
  | .local _ .vmem, ⟨3, _⟩ => ⟨S1x32x128x128, .bf16⟩
  | .local _ .vmem, ⟨4, _⟩ => ⟨S1x128x128, .bf16⟩
  | .local _ .vmem, ⟨5, _⟩ => ⟨S4x128x128, .f32⟩
  | .local _ .vmem, ⟨6, _⟩ => ⟨S4x128x128, .f32⟩
  | _, _ => ⟨S16x2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CompressReferenceIdeal.lean ====
abbrev S16x2048x384 : Shape := ⟨3, ![16, 2048, 384]⟩
abbrev S16x2048x12 : Shape := ⟨3, ![16, 2048, 12]⟩
abbrev S4x32x64 : Shape := ⟨3, ![4, 32, 64]⟩
abbrev S4x2048x64 : Shape := ⟨3, ![4, 2048, 64]⟩
abbrev S4x64x64 : Shape := ⟨3, ![4, 64, 64]⟩
abbrev S127x32 : Shape := ⟨2, ![127, 32]⟩
abbrev S16x2048x64 : Shape := ⟨3, ![16, 2048, 64]⟩
abbrev S1x32x64 : Shape := ⟨3, ![1, 32, 64]⟩
abbrev S32x64 : Shape := ⟨2, ![32, 64]⟩
abbrev S1x2048x64 : Shape := ⟨3, ![1, 2048, 64]⟩
abbrev S2048x64 : Shape := ⟨2, ![2048, 64]⟩
abbrev S1x64x64 : Shape := ⟨3, ![1, 64, 64]⟩
abbrev S64x64 : Shape := ⟨2, ![64, 64]⟩
abbrev S_ : Shape := ⟨0, ![]⟩
abbrev S127x32x1 : Shape := ⟨3, ![127, 32, 1]⟩
abbrev S16x127x32x64 : Shape := ⟨4, ![16, 127, 32, 64]⟩
abbrev S1x1x32x64 : Shape := ⟨4, ![1, 1, 32, 64]⟩
abbrev S16x127x2048 : Shape := ⟨3, ![16, 127, 2048]⟩
abbrev S16x127x64 : Shape := ⟨3, ![16, 127, 64]⟩
abbrev S16x127x128 : Shape := ⟨3, ![16, 127, 128]⟩
abbrev S16x128x128 : Shape := ⟨3, ![16, 128, 128]⟩

abbrev nBuf : Space → Nat
  | .hbm => 75
  | .vmem => 0
  | .smem => 0
  | _ => 0

abbrev bufTy : (tb : Table) → Fin (tcTables nBuf tb) → BufTy
  | .hbm, ⟨0, _⟩ => ⟨S16x2048x384, .f32⟩
  | .hbm, ⟨1, _⟩ => ⟨S16x2048x12, .f32⟩
  | .hbm, ⟨2, _⟩ => ⟨S4x32x64, .f32⟩
  | .hbm, ⟨3, _⟩ => ⟨S4x32x64, .f32⟩
  | .hbm, ⟨4, _⟩ => ⟨S4x2048x64, .f32⟩
  | .hbm, ⟨5, _⟩ => ⟨S4x64x64, .f32⟩
  | .hbm, ⟨6, _⟩ => ⟨S4x2048x64, .f32⟩
  | .hbm, ⟨7, _⟩ => ⟨S4x64x64, .f32⟩
  | .hbm, ⟨8, _⟩ => ⟨S127x32, .i32⟩
  | .hbm, ⟨9, _⟩ => ⟨S127x32, .i1⟩
  | .hbm, ⟨10, _⟩ => ⟨S127x32, .i1⟩
  | .hbm, ⟨11, _⟩ => ⟨S16x2048x64, .f32⟩
  | .hbm, ⟨12, _⟩ => ⟨S16x2048x64, .f32⟩
  | .hbm, ⟨13, _⟩ => ⟨S16x2048x64, .f32⟩
  | .hbm, ⟨14, _⟩ => ⟨S16x2048x64, .f32⟩
  | .hbm, ⟨15, _⟩ => ⟨S16x2048x64, .f32⟩
  | .hbm, ⟨16, _⟩ => ⟨S16x2048x64, .f32⟩
  | .hbm, ⟨17, _⟩ => ⟨S1x32x64, .f32⟩
  | .hbm, ⟨18, _⟩ => ⟨S32x64, .f32⟩
  | .hbm, ⟨19, _⟩ => ⟨S1x2048x64, .f32⟩
  | .hbm, ⟨20, _⟩ => ⟨S2048x64, .f32⟩
  | .hbm, ⟨21, _⟩ => ⟨S1x64x64, .f32⟩
  | .hbm, ⟨22, _⟩ => ⟨S64x64, .f32⟩
  | .hbm, ⟨23, _⟩ => ⟨S_, .i32⟩
  | .hbm, ⟨24, _⟩ => ⟨S127x32, .i32⟩
  | .hbm, ⟨25, _⟩ => ⟨S127x32, .i32⟩
  | .hbm, ⟨26, _⟩ => ⟨S127x32, .i32⟩
  | .hbm, ⟨27, _⟩ => ⟨S127x32x1, .i32⟩
  | .hbm, ⟨28, _⟩ => ⟨S16x127x32x64, .f32⟩
  | .hbm, ⟨29, _⟩ => ⟨S1x1x32x64, .f32⟩
  | .hbm, ⟨30, _⟩ => ⟨S16x127x32x64, .f32⟩
  | .hbm, ⟨31, _⟩ => ⟨S16x127x32x64, .f32⟩
  | .hbm, ⟨32, _⟩ => ⟨S16x127x2048, .f32⟩
  | .hbm, ⟨33, _⟩ => ⟨S16x127x64, .f32⟩
  | .hbm, ⟨34, _⟩ => ⟨S16x127x64, .f32⟩
  | .hbm, ⟨35, _⟩ => ⟨S16x127x64, .f32⟩
  | .hbm, ⟨36, _⟩ => ⟨S_, .f32⟩
  | .hbm, ⟨37, _⟩ => ⟨S16x127x64, .f32⟩
  | .hbm, ⟨38, _⟩ => ⟨S16x127x64, .f32⟩
  | .hbm, ⟨39, _⟩ => ⟨S_, .f32⟩
  | .hbm, ⟨40, _⟩ => ⟨S16x127x64, .f32⟩
  | .hbm, ⟨41, _⟩ => ⟨S16x127x64, .f32⟩
  | .hbm, ⟨42, _⟩ => ⟨S16x127x64, .f32⟩
  | .hbm, ⟨43, _⟩ => ⟨S16x127x64, .f32⟩
  | .hbm, ⟨44, _⟩ => ⟨S1x32x64, .f32⟩
  | .hbm, ⟨45, _⟩ => ⟨S32x64, .f32⟩
  | .hbm, ⟨46, _⟩ => ⟨S1x2048x64, .f32⟩
  | .hbm, ⟨47, _⟩ => ⟨S2048x64, .f32⟩
  | .hbm, ⟨48, _⟩ => ⟨S1x64x64, .f32⟩
  | .hbm, ⟨49, _⟩ => ⟨S64x64, .f32⟩
  | .hbm, ⟨50, _⟩ => ⟨S_, .i32⟩
  | .hbm, ⟨51, _⟩ => ⟨S127x32, .i32⟩
  | .hbm, ⟨52, _⟩ => ⟨S127x32, .i32⟩
  | .hbm, ⟨53, _⟩ => ⟨S127x32, .i32⟩
  | .hbm, ⟨54, _⟩ => ⟨S127x32x1, .i32⟩
  | .hbm, ⟨55, _⟩ => ⟨S16x127x32x64, .f32⟩
  | .hbm, ⟨56, _⟩ => ⟨S1x1x32x64, .f32⟩
  | .hbm, ⟨57, _⟩ => ⟨S16x127x32x64, .f32⟩
  | .hbm, ⟨58, _⟩ => ⟨S16x127x32x64, .f32⟩
  | .hbm, ⟨59, _⟩ => ⟨S16x127x2048, .f32⟩
  | .hbm, ⟨60, _⟩ => ⟨S16x127x64, .f32⟩
  | .hbm, ⟨61, _⟩ => ⟨S16x127x64, .f32⟩
  | .hbm, ⟨62, _⟩ => ⟨S16x127x64, .f32⟩
  | .hbm, ⟨63, _⟩ => ⟨S_, .f32⟩
  | .hbm, ⟨64, _⟩ => ⟨S16x127x64, .f32⟩
  | .hbm, ⟨65, _⟩ => ⟨S16x127x64, .f32⟩
  | .hbm, ⟨66, _⟩ => ⟨S_, .f32⟩
  | .hbm, ⟨67, _⟩ => ⟨S16x127x64, .f32⟩
  | .hbm, ⟨68, _⟩ => ⟨S16x127x64, .f32⟩
  | .hbm, ⟨69, _⟩ => ⟨S16x127x64, .f32⟩
  | .hbm, ⟨70, _⟩ => ⟨S16x127x64, .f32⟩
  | .hbm, ⟨71, _⟩ => ⟨S16x127x128, .f32⟩
  | .hbm, ⟨72, _⟩ => ⟨S_, .i32⟩
  | .hbm, ⟨73, _⟩ => ⟨S_, .f32⟩
  | .hbm, ⟨74, _⟩ => ⟨S16x128x128, .f32⟩
  | _, _ => ⟨S16x2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_4 : Ref sig .tc := ⟨.hbm, 72, rfl⟩
abbrev main_call2_v0 : Ref sig .tc := ⟨.hbm, 73, rfl⟩
abbrev main_v43 : Ref sig .tc := ⟨.hbm, 74, rfl⟩

abbrev nD : Nat := 1
abbrev τ : Topo := Topo.v7x

variable {F : FTy → Type} [FloatOps F]
-- ==== Proof.BackMath.lean ====
/-
  The layer's back half at one token, as mathematics on the extended reals: the mixed row times the output projection,
  normalised and added to the residual, then the gated feed-forward block, normalised and added again. The two programs
  are each shown to compute `outRow` of the token's rows and the layer's weights.
-/
module

public import Idealize.ShloMosaic.Lib.Pointwise

@[expose] public section

noncomputable section

namespace Cert.Proof.Back

open Idealize.ShloMosaic

/-- The width the means are taken over, and the small number added under the root, as the two programs spell them. -/
abbrev width : EReal := Ideal.ofBits .f32 0x44800000#32
abbrev tiny : EReal := Ideal.ofBits .f32 0x358637BD#32

/-- A row scaled by the reciprocal root of its mean square, times a gain. -/
def norm (v g : Fin 1024 → EReal) (l : Fin 1024) : EReal :=
  v l * Ideal.rsqrt (Ideal.div (∑ k, v k * v k) width + tiny) * g l

/-- Four rows of 256 side by side. -/
def sideBySide (a b c d : Fin 256 → EReal) (k : Fin 1024) : EReal :=
  if h : k.val < 256 then a ⟨k.val, h⟩
  else if h : k.val - 256 < 256 then b ⟨k.val - 256, h⟩
  else if h : k.val - 256 - 256 < 256 then c ⟨k.val - 256 - 256, h⟩
  else d ⟨k.val - 256 - 256 - 256, by omega⟩

/-- A row times a matrix. -/
def times {n p : ℕ} (v : Fin n → EReal) (w : Fin n → Fin p → EReal) (l : Fin p) : EReal := ∑ k, v k * w k l

/-- The residual row after the mixers: the token's row plus the normalised projection of its mixed row. -/
def midRow (a b c d : Fin 256 → EReal) (x : Fin 1024 → EReal) (w : Fin 1024 → Fin 1024 → EReal)
    (g : Fin 1024 → EReal) (l : Fin 1024) : EReal :=
  x l + norm (times (sideBySide a b c d) w) g l

/-- `u · sigmoid u`. -/
def silu (u : EReal) : EReal := u * Ideal.logistic u

/-- Hidden unit `k` of the gated feed-forward: the gate is column `k` of the joined weights, the other factor column
    `2816 + k`. -/
def hidden (h : Fin 1024 → EReal) (wgu : Fin 1024 → Fin 5632 → EReal) (k : Fin 2816) : EReal :=
  silu (times h wgu ⟨k.val, by omega⟩) * times h wgu ⟨2816 + k.val, by omega⟩

/-- The row the layer hands on. -/
def outRow (a b c d : Fin 256 → EReal) (x : Fin 1024 → EReal) (w : Fin 1024 → Fin 1024 → EReal)
    (gm gp : Fin 1024 → EReal) (wgu : Fin 1024 → Fin 5632 → EReal) (wd : Fin 2816 → Fin 1024 → EReal)
    (gf : Fin 1024 → EReal) (l : Fin 1024) : EReal :=
  midRow a b c d x w gm l + norm (times (hidden (norm (midRow a b c d x w gm) gp) wgu) wd) gf l

/-- Equal rows and weights give equal output rows. -/
theorem outRow_congr {a b c d a' b' c' d' : Fin 256 → EReal} {x x' gm gp gm' gp' gf gf' : Fin 1024 → EReal}
    {w w' : Fin 1024 → Fin 1024 → EReal} {wgu wgu' : Fin 1024 → Fin 5632 → EReal} {wd wd' : Fin 2816 → Fin 1024 → EReal}
    (ha : ∀ k, a k = a' k) (hb : ∀ k, b k = b' k) (hc : ∀ k, c k = c' k) (hd : ∀ k, d k = d' k) (hx : ∀ k, x k = x' k)
    (hw : ∀ j k, w j k = w' j k) (hgm : ∀ k, gm k = gm' k) (hgp : ∀ k, gp k = gp' k) (hgu : ∀ j k, wgu j k = wgu' j k)
    (hwd : ∀ j k, wd j k = wd' j k) (hgf : ∀ k, gf k = gf' k) (l : Fin 1024) :
    outRow a b c d x w gm gp wgu wd gf l = outRow a' b' c' d' x' w' gm' gp' wgu' wd' gf' l := by
  obtain rfl := funext ha; obtain rfl := funext hb; obtain rfl := funext hc; obtain rfl := funext hd
  obtain rfl := funext hx; obtain rfl := funext fun j => funext (hw j); obtain rfl := funext hgm
  obtain rfl := funext hgp; obtain rfl := funext fun j => funext (hgu j)
  obtain rfl := funext fun j => funext (hwd j); obtain rfl := funext hgf
  rfl

/-- A sum over the 2816 hidden units is the sum over the first 1536 plus the sum over the other 1280. -/
theorem sum_hidden (f : Fin 2816 → EReal) :
    ∑ k, f k = (∑ k : Fin 1536, f ⟨k.val, by omega⟩) + ∑ k : Fin 1280, f ⟨1536 + k.val, by omega⟩ := by
  exact Fin.sum_univ_add (a := 1536) (b := 1280) f

end Cert.Proof.Back

end
-- ==== Proof.BackBlock.lean ====
/-
  What one block of the layer's back half holds: row `r` of the 512 rows is `outRow` of the block's rows.
-/
module

public import proofs.«01_k».proof.Proof.Gen.BackIdeal.Value
public import proofs.«01_k».proof.Proof.BackMath

@[expose] public section

set_option maxRecDepth 16384

noncomputable section

namespace Cert.Proof.Back

open Idealize.ShloMosaic Cert.BackIdeal Cert.BackIdeal.Gen

variable (v0 v2 v4 v6 : Vec Ideal S256x256 .bf16) (v9 : Vec Ideal S256x1024 .f32)
  (v11 : Vec Ideal S1x1024x1024 .bf16) (v14 : Vec Ideal S1x1x1024 .f32)

/-- The residual rows of the block's first half, -/
theorem pay2_apply (r : Fin 256) (l : Fin 1024) :
    k0_pay2 v0 v2 v4 v6 v9 v11 v14 (ix2 r l)
      = midRow (fun k => v0 (ix2 r k)) (fun k => v2 (ix2 r k)) (fun k => v4 (ix2 r k)) (fun k => v6 (ix2 r k))
          (fun k => v9 (ix2 r k)) (fun j k => v11 (ix3 0 j k)) (fun k => v14 (ix3 0 0 k)) l := by
  pointwise [k0_pay2, dot_S256x1024_S1024x1024_S256x1024_1_0_0_1_n_n]
  rfl

/-- and of its second half, by the same operations. -/
theorem pay6_eq : k0_pay6 v0 v2 v4 v6 v9 v11 v14 = k0_pay2 v0 v2 v4 v6 v9 v11 v14 := rfl

/-- The first half's rows, normalised: what is normalised is the residual row. -/
theorem pay5_apply (v29 : Vec Ideal S1x1x1024 .f32) (r : Fin 256) (l : Fin 1024) :
    k0_pay5 (k0_pay2 v0 v2 v4 v6 v9 v11 v14) (k0_pay3 v29) (k0_pay4 v0 v2 v4 v6 v9 v11 v14)
        (Scalar.ofBits .f32 0x44800000#32) (ix2 r l)
      = norm (fun k => k0_pay2 v0 v2 v4 v6 v9 v11 v14 (ix2 r k)) (fun k => v29 (ix3 0 0 k)) l := by
  pointwise [k0_pay5, k0_pay3, k0_pay4]
  rfl

/-- The two halves' residual rows, one above the other. -/
theorem pay7_apply (u v : FVec Ideal S256x1024 .f32) (r : Fin 512) (l : Fin 1024) :
    k0_pay7 u v (ix2 r l)
      = if h : r.val < 256 then u (ix2 ⟨r.val, h⟩ l) else v (ix2 ⟨r.val - 256, by omega⟩ l) := by
  pointwise [k0_pay7]

/-- The two halves' normalised rows, one above the other. -/
theorem pay8_apply (u : FVec Ideal S256x1024 .bf16) (v : FVec Ideal S256x1024 .f32) (g : Vec Ideal S1x1x1024 .f32)
    (r : Fin 512) (l : Fin 1024) :
    k0_pay8 u v g (ix2 r l)
      = if h : r.val < 256 then u (ix2 ⟨r.val, h⟩ l)
        else norm (fun k => v (ix2 ⟨r.val - 256, by omega⟩ k)) (fun k => g (ix3 0 0 k)) l := by
  pointwise [k0_pay8]
  rfl

/-- The feed-forward's first 1536 hidden units: their share of the output row. -/
theorem pay9_apply (u : FVec Ideal S256x1024 .bf16) (v : FVec Ideal S256x1024 .f32) (g : Vec Ideal S1x1x1024 .f32)
    (wg wu : Vec Ideal S1x1024x1536 .bf16) (wd : Vec Ideal S1x1536x1024 .bf16) (r : Fin 512) (l : Fin 1024) :
    k0_pay9 u v g wg wu wd (ix2 r l)
      = ∑ k : Fin 1536, silu (times (fun j => k0_pay8 u v g (ix2 r j)) (fun j k => wg (ix3 0 j k)) k)
          * times (fun j => k0_pay8 u v g (ix2 r j)) (fun j k => wu (ix3 0 j k)) k * wd (ix3 0 k l) := by
  pointwise [k0_pay9, dot_S512x1024_S1024x1536_S512x1536_1_0_0_1_n_n, dot_S512x1536_S1536x1024_S512x1024_1_0_0_1_n_n]
  rfl

/-- The gate's products for the other 1280 hidden units. -/
theorem pay10_apply (u : FVec Ideal S256x1024 .bf16) (v : FVec Ideal S256x1024 .f32) (g : Vec Ideal S1x1x1024 .f32)
    (wg : Vec Ideal S1x1024x1280 .bf16) (r : Fin 512) (k : Fin 1280) :
    k0_pay10 u v g wg (ix2 r k) = times (fun j => k0_pay8 u v g (ix2 r j)) (fun j k => wg (ix3 0 j k)) k := by
  pointwise [k0_pay10, dot_S512x1024_S1024x1280_S512x1280_1_0_0_1_n_n]
  rfl

/-- The stored row: the residual plus the normalised sum of both shares. -/
theorem pay1_apply (x : FVec Ideal S512x1024 .f32) (h : FVec Ideal S512x1024 .bf16) (f : FVec Ideal S512x1024 .f32)
    (u : FVec Ideal S512x1280 .f32) (wu : Vec Ideal S1x1024x1280 .bf16) (wd : Vec Ideal S1x1280x1024 .bf16)
    (g : Vec Ideal S1x1x1024 .f32) (r : Fin 512) (l : Fin 1024) :
    k0_pay1 x h f u wu wd g (ix2 r l)
      = x (ix2 r l) + norm (fun l => f (ix2 r l) + ∑ k : Fin 1280, silu (u (ix2 r k))
            * times (fun j => h (ix2 r j)) (fun j k => wu (ix3 0 j k)) k * wd (ix3 0 k l))
          (fun k => g (ix3 0 0 k)) l := by
  pointwise [k0_pay1, dot_S512x1024_S1024x1280_S512x1280_1_0_0_1_n_n, dot_S512x1280_S1280x1024_S512x1024_1_0_0_1_n_n]
  rfl

/-- The stored row from the residual row and the normalised row: the two shares of the hidden units make the whole sum. -/
theorem share_apply (p : FVec Ideal S256x1024 .bf16) (u v : FVec Ideal S256x1024 .f32) (g7 : Vec Ideal S1x1x1024 .f32)
    (x8 : Vec Ideal S1x1024x5632 .bf16) (x9 : Vec Ideal S1x2816x1024 .bf16) (g : Vec Ideal S1x1x1024 .f32)
    (r : Fin 512) (l : Fin 1024) :
    k0_pay1 (k0_pay7 u v) (k0_pay8 p v g7) (k0_pay9 p v g7 (View.ld x8 r0_6) (View.ld x8 r0_7) (View.ld x9 r0_8))
        (k0_pay10 p v g7 (View.ld x8 r0_9)) (View.ld x8 r0_10) (View.ld x9 r0_11) (View.ld g r0_3) (ix2 r l)
      = k0_pay7 u v (ix2 r l) + norm (times (hidden (fun k => k0_pay8 p v g7 (ix2 r k)) (fun j k => x8 (ix3 0 j k)))
          (fun j k => x9 (ix3 0 j k))) (fun k => g (ix3 0 0 k)) l := by
  rw [pay1_apply]
  simp only [pay9_apply, pay10_apply]
  generalize (fun j => k0_pay8 p v g7 (ix2 r j)) = h
  unfold norm times
  simp only [sum_hidden]
  have e : ∀ k : Fin 1280, (⟨2816 + (1536 + k.val), by omega⟩ : Fin 5632) = ⟨4352 + k.val, by omega⟩ :=
    fun k => Fin.ext (by simp only; omega)
  pointwise [hidden, times, e]

/-- The residual row of row `r`, whichever half it is in. -/
theorem mid_apply (x0 x1 x2 x3 : Vec Ideal S512x256 .bf16) (x4 : Vec Ideal S512x1024 .f32)
    (x5 : Vec Ideal S1x1024x1024 .bf16) (x6 : Vec Ideal S1x1x1024 .f32) (r : Fin 512) (l : Fin 1024) :
    k0_pay7
      (k0_pay2 (View.ld x0 r0_0) (View.ld x1 r0_0) (View.ld x2 r0_0) (View.ld x3 r0_0) (View.ld x4 r0_1)
        (View.ld x5 r0_2) (View.ld x6 r0_3))
      (k0_pay6 (View.ld x0 r0_4) (View.ld x1 r0_4) (View.ld x2 r0_4) (View.ld x3 r0_4) (View.ld x4 r0_5)
        (View.ld x5 r0_2) (View.ld x6 r0_3)) (ix2 r l)
      = midRow (fun k => x0 (ix2 r k)) (fun k => x1 (ix2 r k)) (fun k => x2 (ix2 r k)) (fun k => x3 (ix2 r k))
          (fun k => x4 (ix2 r k)) (fun j k => x5 (ix3 0 j k)) (fun k => x6 (ix3 0 0 k)) l := by
  rw [pay7_apply]
  split
  · pointwise [pay2_apply]
  · rename_i h
    have e : (⟨256 + (r.val - 256), by omega⟩ : Fin 512) = r := Fin.ext (by simp only; omega)
    pointwise [pay6_eq, pay2_apply, e]

/-- The normalised row of row `r`, whichever half it is in. -/
theorem norm_apply (v : FVec Ideal S256x1024 .f32) (g : Vec Ideal S1x1x1024 .f32) (r : Fin 512) (l : Fin 1024) :
    k0_pay8 (k0_pay5 (k0_pay2 v0 v2 v4 v6 v9 v11 v14) (k0_pay3 (View.ld g r0_3)) (k0_pay4 v0 v2 v4 v6 v9 v11 v14)
        (Scalar.ofBits .f32 0x44800000#32)) v (View.ld g r0_3) (ix2 r l)
      = norm (fun k => k0_pay7 (k0_pay2 v0 v2 v4 v6 v9 v11 v14) v (ix2 r k)) (fun k => g (ix3 0 0 k)) l := by
  rw [pay8_apply]
  split
  · rename_i h
    rw [pay5_apply]
    simp only [pay7_apply, h, dite_true]
    pointwise
  · rename_i h
    simp only [pay7_apply, h, dite_false]
    pointwise

/-- Row `r`, column `l` of the block the body stores. -/
theorem out_apply (x0 x1 x2 x3 : Vec Ideal S512x256 .bf16) (x4 : Vec Ideal S512x1024 .f32)
    (x5 : Vec Ideal S1x1024x1024 .bf16) (x6 x7 : Vec Ideal S1x1x1024 .f32) (x8 : Vec Ideal S1x1024x5632 .bf16)
    (x9 : Vec Ideal S1x2816x1024 .bf16) (x10 : Vec Ideal S1x1x1024 .f32) (r : Fin 512) (l : Fin 1024) :
    out0_11 x0 x1 x2 x3 x4 x5 x6 x7 x8 x9 x10 (ix2 r l)
      = outRow (fun k => x0 (ix2 r k)) (fun k => x1 (ix2 r k)) (fun k => x2 (ix2 r k)) (fun k => x3 (ix2 r k))
          (fun k => x4 (ix2 r k)) (fun j k => x5 (ix3 0 j k)) (fun k => x6 (ix3 0 0 k)) (fun k => x7 (ix3 0 0 k))
          (fun j k => x8 (ix3 0 j k)) (fun j k => x9 (ix3 0 j k)) (fun k => x10 (ix3 0 0 k)) l := by
  unfold_out out0_11
  rw [View.canon_unit_zero (by funext a; fin_cases a <;> rfl), share_apply, mid_apply]
  unfold outRow
  congr 3
  congr 1
  funext k
  refine (norm_apply _ _ _ _ _ _ _ _ _ _ _).trans ?_
  simp only [mid_apply]

end Cert.Proof.Back

end
-- ==== Proof.BackArray.lean ====
/-
  The array the layer's back half leaves: token `512 t + r` is row `r` of block `t`, so every token's row is `outRow` of its
  own rows of the arguments and of layer 1's weights.
-/
module

public import proofs.«01_k».proof.Proof.BackBlock
public import Idealize.ShloMosaic.Lib.Claim

@[expose] public section

set_option maxRecDepth 16384

noncomputable section

namespace Cert.Proof.Back

open Idealize.ShloMosaic Idealize.ShloMosaic.TcCoe Idealize.SL.Sem Cert.BackIdeal Cert.BackIdeal.Gen
open Idealize.ShloMosaic.Pipeline (Dat)

variable (m : (ℓ : Loc nD τ sig) → Buf (Elt Ideal) ℓ) (c : Dev nD)

/-- Which block each window takes at a point: the token arrays' block `t`, the weights' layer 1. -/
theorem index_tokens : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_11.index t = ![t.val, 0] :=
  (by decide +kernel : ∀ t : Fin grid0.N, win0_0.index t = ![t.val, 0] ∧ win0_1.index t = ![t.val, 0]
    ∧ win0_2.index t = ![t.val, 0] ∧ win0_3.index t = ![t.val, 0] ∧ win0_4.index t = ![t.val, 0]
    ∧ win0_11.index t = ![t.val, 0])

theorem index_weights (t : Fin cfg0.N) : win0_5.index t = ![1, 0, 0] ∧ win0_6.index t = ![1, 0, 0]
    ∧ win0_7.index t = ![1, 0, 0] ∧ win0_8.index t = ![1, 0, 0] ∧ win0_9.index t = ![1, 0, 0]
    ∧ win0_10.index t = ![1, 0, 0] := ⟨rfl, rfl, rfl, rfl, rfl, rfl⟩

/-- Token `512 t + r`. -/
abbrev tok (t : Fin cfg0.N) (r : Fin 512) : Fin 32768 := ⟨t.val * 512 + r.val, by have := t.isLt; have : cfg0.N = 64 := N_0; omega⟩

/-! What each window's block holds of its array. -/

theorem iblk_0 (t : Fin cfg0.N) (r : Fin 512) (k : Fin 256) :
    iblk m c 0 t (ix2 r k) = V m c main_v6 (ix2 (tok t r) k) := by
  have e := (index_tokens t).1
  refine congrArg (V m c main_v6) (funext fun a => Fin.ext ?_)
  match a with
  | ⟨0, _⟩ => show win0_0.index t 0 * 512 + 1 * r.val = t.val * 512 + r.val; rw [e]; simp
  | ⟨1, _⟩ => show win0_0.index t 1 * 256 + 1 * k.val = k.val; rw [e]; simp

theorem iblk_1 (t : Fin cfg0.N) (r : Fin 512) (k : Fin 256) :
    iblk m c 1 t (ix2 r k) = V m c main_v7 (ix2 (tok t r) k) := by
  have e := (index_tokens t).2.1
  refine congrArg (V m c main_v7) (funext fun a => Fin.ext ?_)
  match a with
  | ⟨0, _⟩ => show win0_1.index t 0 * 512 + 1 * r.val = t.val * 512 + r.val; rw [e]; simp
  | ⟨1, _⟩ => show win0_1.index t 1 * 256 + 1 * k.val = k.val; rw [e]; simp

theorem iblk_2 (t : Fin cfg0.N) (r : Fin 512) (k : Fin 256) :
    iblk m c 2 t (ix2 r k) = V m c main_v8 (ix2 (tok t r) k) := by
  have e := (index_tokens t).2.2.1
  refine congrArg (V m c main_v8) (funext fun a => Fin.ext ?_)
  match a with
  | ⟨0, _⟩ => show win0_2.index t 0 * 512 + 1 * r.val = t.val * 512 + r.val; rw [e]; simp
  | ⟨1, _⟩ => show win0_2.index t 1 * 256 + 1 * k.val = k.val; rw [e]; simp

theorem iblk_3 (t : Fin cfg0.N) (r : Fin 512) (k : Fin 256) :
    iblk m c 3 t (ix2 r k) = V m c main_v9 (ix2 (tok t r) k) := by
  have e := (index_tokens t).2.2.2.1
  refine congrArg (V m c main_v9) (funext fun a => Fin.ext ?_)
  match a with
  | ⟨0, _⟩ => show win0_3.index t 0 * 512 + 1 * r.val = t.val * 512 + r.val; rw [e]; simp
  | ⟨1, _⟩ => show win0_3.index t 1 * 256 + 1 * k.val = k.val; rw [e]; simp

theorem iblk_4 (t : Fin cfg0.N) (r : Fin 512) (k : Fin 1024) :
    iblk m c 4 t (ix2 r k) = V m c main_v10 (ix2 (tok t r) k) := by
  have e := (index_tokens t).2.2.2.2.1
  refine congrArg (V m c main_v10) (funext fun a => Fin.ext ?_)
  match a with
  | ⟨0, _⟩ => show win0_4.index t 0 * 512 + 1 * r.val = t.val * 512 + r.val; rw [e]; simp
  | ⟨1, _⟩ => show win0_4.index t 1 * 1024 + 1 * k.val = k.val; rw [e]; simp

theorem iblk_5 (t : Fin cfg0.N) (j : Fin 1024) (k : Fin 1024) :
    iblk m c 5 t (ix3 0 j k) = V m c main_v3 (ix3 1 j k) := by
  refine congrArg (V m c main_v3) (funext fun a => Fin.ext ?_)
  match a with
  | ⟨0, _⟩ => rfl
  | ⟨1, _⟩ => show 0 * 1024 + 1 * j.val = j.val; omega
  | ⟨2, _⟩ => show 0 * 1024 + 1 * k.val = k.val; omega

theorem iblk_8 (t : Fin cfg0.N) (j : Fin 1024) (k : Fin 5632) :
    iblk m c 8 t (ix3 0 j k) = V m c main_v4 (ix3 1 j k) := by
  refine congrArg (V m c main_v4) (funext fun a => Fin.ext ?_)
  match a with
  | ⟨0, _⟩ => rfl
  | ⟨1, _⟩ => show 0 * 1024 + 1 * j.val = j.val; omega
  | ⟨2, _⟩ => show 0 * 5632 + 1 * k.val = k.val; omega

theorem iblk_9 (t : Fin cfg0.N) (j : Fin 2816) (k : Fin 1024) :
    iblk m c 9 t (ix3 0 j k) = V m c main_v5 (ix3 1 j k) := by
  refine congrArg (V m c main_v5) (funext fun a => Fin.ext ?_)
  match a with
  | ⟨0, _⟩ => rfl
  | ⟨1, _⟩ => show 0 * 2816 + 1 * j.val = j.val; omega
  | ⟨2, _⟩ => show 0 * 1024 + 1 * k.val = k.val; omega

theorem iblk_6 (t : Fin cfg0.N) (k : Fin 1024) :
    iblk m c 6 t (ix3 0 0 k) = V m c main_v0 (ix3 1 0 k) := by
  refine congrArg (V m c main_v0) (funext fun a => Fin.ext ?_)
  match a with
  | ⟨0, _⟩ => rfl
  | ⟨1, _⟩ => rfl
  | ⟨2, _⟩ => show 0 * 1024 + 1 * k.val = k.val; omega

theorem iblk_7 (t : Fin cfg0.N) (k : Fin 1024) :
    iblk m c 7 t (ix3 0 0 k) = V m c main_v1 (ix3 1 0 k) := by
  refine congrArg (V m c main_v1) (funext fun a => Fin.ext ?_)
  match a with
  | ⟨0, _⟩ => rfl
  | ⟨1, _⟩ => rfl
  | ⟨2, _⟩ => show 0 * 1024 + 1 * k.val = k.val; omega

theorem iblk_10 (t : Fin cfg0.N) (k : Fin 1024) :
    iblk m c 10 t (ix3 0 0 k) = V m c main_v2 (ix3 1 0 k) := by
  refine congrArg (V m c main_v2) (funext fun a => Fin.ext ?_)
  match a with
  | ⟨0, _⟩ => rfl
  | ⟨1, _⟩ => rfl
  | ⟨2, _⟩ => show 0 * 1024 + 1 * k.val = k.val; omega

/-! What the arrays hold when the call begins: the arguments, the token axes joined, the weights rounded. -/

theorem entry_6 (i : Fin 32768) (k : Fin 256) : V m c main_v6 (ix2 i k)
    = m ((c : Thread nD τ).loc main_arg0) (ix3 ⟨i.val / 2048, by omega⟩ ⟨i.val % 2048, by omega⟩ k) := by
  entry_read
  pointwise
theorem entry_7 (i : Fin 32768) (k : Fin 256) : V m c main_v7 (ix2 i k)
    = m ((c : Thread nD τ).loc main_arg1) (ix3 ⟨i.val / 2048, by omega⟩ ⟨i.val % 2048, by omega⟩ k) := by
  entry_read
  pointwise
theorem entry_8 (i : Fin 32768) (k : Fin 256) : V m c main_v8 (ix2 i k)
    = m ((c : Thread nD τ).loc main_arg2) (ix3 ⟨i.val / 2048, by omega⟩ ⟨i.val % 2048, by omega⟩ k) := by
  entry_read
  pointwise
theorem entry_9 (i : Fin 32768) (k : Fin 256) : V m c main_v9 (ix2 i k)
    = m ((c : Thread nD τ).loc main_arg3) (ix3 ⟨i.val / 2048, by omega⟩ ⟨i.val % 2048, by omega⟩ k) := by
  entry_read
  pointwise
theorem entry_10 (i : Fin 32768) (k : Fin 1024) : V m c main_v10 (ix2 i k)
    = m ((c : Thread nD τ).loc main_arg4) (ix3 ⟨i.val / 2048, by omega⟩ ⟨i.val % 2048, by omega⟩ k) := by
  entry_read
  pointwise
theorem entry_3 (j : Fin 1024) (k : Fin 1024) : V m c main_v3 (ix3 1 j k)
    = m ((c : Thread nD τ).loc main_arg5) (ix3 1 j k) := by
  entry_read
  pointwise
theorem entry_4 (j : Fin 1024) (k : Fin 5632) : V m c main_v4 (ix3 1 j k)
    = m ((c : Thread nD τ).loc main_arg8) (ix3 1 j k) := by
  entry_read
  pointwise
theorem entry_5 (j : Fin 2816) (k : Fin 1024) : V m c main_v5 (ix3 1 j k)
    = m ((c : Thread nD τ).loc main_arg9) (ix3 1 j k) := by
  entry_read
  pointwise
theorem entry_0 (k : Fin 1024) : V m c main_v0 (ix3 1 0 k)
    = m ((c : Thread nD τ).loc main_arg6) (ix2 1 k) := by
  entry_read
  pointwise
theorem entry_1 (k : Fin 1024) : V m c main_v1 (ix3 1 0 k)
    = m ((c : Thread nD τ).loc main_arg7) (ix2 1 k) := by
  entry_read
  pointwise
theorem entry_2 (k : Fin 1024) : V m c main_v2 (ix3 1 0 k)
    = m ((c : Thread nD τ).loc main_arg10) (ix2 1 k) := by
  entry_read
  pointwise

/-- The whole result: each token's row from its own rows of the arguments. -/
def result (i : S32768x1024.Idx) : EReal :=
  outRow (fun k => m ((c : Thread nD τ).loc main_arg0) (ix3 ⟨(i 0).val / 2048, by have : (i 0).val < 32768 := (i 0).isLt; omega⟩ ⟨(i 0).val % 2048, by omega⟩ k))
    (fun k => m ((c : Thread nD τ).loc main_arg1) (ix3 ⟨(i 0).val / 2048, by have : (i 0).val < 32768 := (i 0).isLt; omega⟩ ⟨(i 0).val % 2048, by omega⟩ k))
    (fun k => m ((c : Thread nD τ).loc main_arg2) (ix3 ⟨(i 0).val / 2048, by have : (i 0).val < 32768 := (i 0).isLt; omega⟩ ⟨(i 0).val % 2048, by omega⟩ k))
    (fun k => m ((c : Thread nD τ).loc main_arg3) (ix3 ⟨(i 0).val / 2048, by have : (i 0).val < 32768 := (i 0).isLt; omega⟩ ⟨(i 0).val % 2048, by omega⟩ k))
    (fun k => m ((c : Thread nD τ).loc main_arg4) (ix3 ⟨(i 0).val / 2048, by have : (i 0).val < 32768 := (i 0).isLt; omega⟩ ⟨(i 0).val % 2048, by omega⟩ k))
    (fun j k => m ((c : Thread nD τ).loc main_arg5) (ix3 1 j k))
    (fun k => m ((c : Thread nD τ).loc main_arg6) (ix2 1 k)) (fun k => m ((c : Thread nD τ).loc main_arg7) (ix2 1 k))
    (fun j k => m ((c : Thread nD τ).loc main_arg8) (ix3 1 j k)) (fun j k => m ((c : Thread nD τ).loc main_arg9) (ix3 1 j k))
    (fun k => m ((c : Thread nD τ).loc main_arg10) (ix2 1 k)) (i 1)

/-- What point `t` writes back is block `t` of the whole result. -/
theorem flushed_eq (t : Fin cfg0.N) :
    (dats m 0 c).flushed 11 t = ((cfg0.win 11).blk t).view.read (Elt Ideal) (result m c) := by
  rw [Cert.BackIdeal.Value.flushed11]
  have key : ∀ z : S512x1024.Idx, out0_11 (iblk m c 0 t) (iblk m c 1 t) (iblk m c 2 t) (iblk m c 3 t) (iblk m c 4 t)
      (iblk m c 5 t) (iblk m c 6 t) (iblk m c 7 t) (iblk m c 8 t) (iblk m c 9 t) (iblk m c 10 t) z
      = result m c (ix2 (tok t (z 0)) (z 1)) := by
    intro z
    have hz : z = ix2 (z 0) (z 1) := by funext a; match a with | ⟨0, _⟩ => rfl | ⟨1, _⟩ => rfl
    rw [hz]
    refine (out_apply _ _ _ _ _ _ _ _ _ _ _ _ _).trans ?_
    exact outRow_congr
      (fun k => (iblk_0 m c t _ k).trans (entry_6 m c _ k)) (fun k => (iblk_1 m c t _ k).trans (entry_7 m c _ k))
      (fun k => (iblk_2 m c t _ k).trans (entry_8 m c _ k)) (fun k => (iblk_3 m c t _ k).trans (entry_9 m c _ k))
      (fun k => (iblk_4 m c t _ k).trans (entry_10 m c _ k)) (fun j k => (iblk_5 m c t j k).trans (entry_3 m c j k))
      (fun k => (iblk_6 m c t k).trans (entry_0 m c k)) (fun k => (iblk_7 m c t k).trans (entry_1 m c k))
      (fun j k => (iblk_8 m c t j k).trans (entry_4 m c j k)) (fun j k => (iblk_9 m c t j k).trans (entry_5 m c j k))
      (fun k => (iblk_10 m c t k).trans (entry_2 m c k)) _
  funext z
  refine (key z).trans (congrArg (result m c) (funext fun a => Fin.ext ?_))
  have e := (index_tokens t).2.2.2.2.2
  match a with
  | ⟨0, _⟩ => show t.val * 512 + (z 0).val = win0_11.index t 0 * 512 + 1 * (z 0).val; rw [e]; simp
  | ⟨1, _⟩ => show (z 1).val = win0_11.index t 1 * 1024 + 1 * (z 1).val; rw [e]; simp

/-- Every row is in one block. -/
theorem cover (i : S32768x1024.Idx) :
    ∃ t : Fin cfg0.N, (cfg0.win 11).flush t = true ∧ i ∈ ((cfg0.win 11).blk t).view.set := by
  have h0 : (i 0).val < 32768 := (i 0).isLt
  have h1 : (i 1).val < 1024 := (i 1).isLt
  have hN : cfg0.N = 64 := N_0
  let t : Fin cfg0.N := ⟨(i 0).val / 512, by omega⟩
  have ht : t.val = (i 0).val / 512 := rfl
  have e := (index_tokens t).2.2.2.2.2
  refine ⟨t, flush0_11 t, ?_⟩
  show i ∈ ((View.whole main_v11).slice (win0_11.rect t)).set
  rw [View.set_slice_whole, Rect.mem_set_unit]
  intro a
  match a with
  | ⟨0, _⟩ =>
    show win0_11.index t 0 * 512 ≤ (i 0).val ∧ (i 0).val < win0_11.index t 0 * 512 + 512
    rw [e]; simp only [Matrix.cons_val_zero]; omega
  | ⟨1, _⟩ =>
    show win0_11.index t 1 * 1024 ≤ (i 1).val ∧ (i 1).val < win0_11.index t 1 * 1024 + 1024
    rw [e]; simp only [Matrix.cons_val_one, Matrix.cons_val_fin_one]; omega

/-- The array ends holding the whole result. -/
theorem final : (dats m 0 c).arrAt 11 cfg0.N = result m c :=
  (dats m 0 c).arrAt_eq_of_cover 11 (result m c) (fun t _ => flushed_eq m c t) cover

end Cert.Proof.Back

end
-- ==== Proof.BackRef.lean ====
/-
  The reference's back half at an index: the same row function of the token's rows.
-/
module

public import proofs.«01_k».proof.Proof.Gen.BackReferenceIdeal.Run
public import proofs.«01_k».proof.Proof.BackMath

@[expose] public section

set_option maxRecDepth 16384

noncomputable section

namespace Cert.Proof.BackRef

open Idealize.ShloMosaic Idealize.ShloMosaic.TcCoe Idealize.ShloMosaic.StableHlo Cert.BackReferenceIdeal
open Cert.BackReferenceIdeal.Value Cert.Proof.Back

variable (V0 : Valuation τ sig (Elt Ideal))

/-- The arguments as plain arrays. -/
abbrev a0 : FVec Ideal S16x2048x256 .bf16 := V0 (Proc.devRef .tc main_arg0)
abbrev a1 : FVec Ideal S16x2048x256 .bf16 := V0 (Proc.devRef .tc main_arg1)
abbrev a2 : FVec Ideal S16x2048x256 .bf16 := V0 (Proc.devRef .tc main_arg2)
abbrev a3 : FVec Ideal S16x2048x256 .bf16 := V0 (Proc.devRef .tc main_arg3)
abbrev a4 : FVec Ideal S16x2048x1024 .f32 := V0 (Proc.devRef .tc main_arg4)
abbrev a5 : FVec Ideal S4x1024x1024 .f32 := V0 (Proc.devRef .tc main_arg5)
abbrev a6 : FVec Ideal S4x1024 .f32 := V0 (Proc.devRef .tc main_arg6)
abbrev a7 : FVec Ideal S4x1024 .f32 := V0 (Proc.devRef .tc main_arg7)
abbrev a8 : FVec Ideal S4x1024x5632 .f32 := V0 (Proc.devRef .tc main_arg8)
abbrev a9 : FVec Ideal S4x2816x1024 .f32 := V0 (Proc.devRef .tc main_arg9)
abbrev a10 : FVec Ideal S4x1024 .f32 := V0 (Proc.devRef .tc main_arg10)

/-- The intermediate arrays, by the name of what they are. -/
abbrev mixed : FVec Ideal S16x2048x1024 .f32 := res_main_v7 V0
abbrev mid : FVec Ideal S16x2048x1024 .f32 := res_main_v23 V0
abbrev gateUp : FVec Ideal S16x2048x5632 .f32 := res_main_v41 V0
abbrev gate : FVec Ideal S16x2048x2816 .f32 := res_main_v42 V0
abbrev ffn : FVec Ideal S16x2048x1024 .f32 := res_main_v48 V0

theorem mixed_apply (b : Fin 16) (s : Fin 2048) (l : Fin 1024) :
    mixed V0 (ix3 b s l) = times (sideBySide (fun k => a0 V0 (ix3 b s k)) (fun k => a1 V0 (ix3 b s k))
      (fun k => a2 V0 (ix3 b s k)) (fun k => a3 V0 (ix3 b s k))) (fun j k => a5 V0 (ix3 1 j k)) l := by
  unfold mixed res_main_v7
  pointwise [dot_S16x2048x1024_S1024x1024_S16x2048x1024_2_0_01_1_n_n]
  rfl

theorem mid_apply (b : Fin 16) (s : Fin 2048) (l : Fin 1024) :
    mid V0 (ix3 b s l) = midRow (fun k => a0 V0 (ix3 b s k)) (fun k => a1 V0 (ix3 b s k))
      (fun k => a2 V0 (ix3 b s k)) (fun k => a3 V0 (ix3 b s k)) (fun k => a4 V0 (ix3 b s k))
      (fun j k => a5 V0 (ix3 1 j k)) (fun k => a6 V0 (ix2 1 k)) l := by
  have h : mid V0 (ix3 b s l) = a4 V0 (ix3 b s l) + norm (fun k => mixed V0 (ix3 b s k)) (fun k => a6 V0 (ix2 1 k)) l := by
    unfold mid res_main_v23
    pointwise
    rfl
  exact h.trans (congrArg (fun v => a4 V0 (ix3 b s l) + norm v (fun k => a6 V0 (ix2 1 k)) l)
    (funext fun k => mixed_apply V0 b s k))

theorem gateUp_apply (b : Fin 16) (s : Fin 2048) (l : Fin 5632) :
    gateUp V0 (ix3 b s l) = times (norm (fun k => mid V0 (ix3 b s k)) (fun k => a7 V0 (ix2 1 k)))
      (fun j k => a8 V0 (ix3 1 j k)) l := by
  unfold gateUp res_main_v41
  pointwise [dot_S16x2048x1024_S1024x5632_S16x2048x5632_2_0_01_1_n_n]
  rfl

theorem ffn_apply (b : Fin 16) (s : Fin 2048) (l : Fin 1024) :
    ffn V0 (ix3 b s l) = ∑ k : Fin 2816, silu (gateUp V0 (ix3 b s ⟨k.val, by omega⟩))
      * gateUp V0 (ix3 b s ⟨2816 + k.val, by omega⟩) * a9 V0 (ix3 1 k l) := by
  unfold ffn res_main_v48 res_main_v42
  pointwise [dot_S16x2048x2816_S2816x1024_S16x2048x1024_2_0_01_1_n_n]
  rfl

/-- The reference's result before its token axes are joined. -/
theorem out_apply (b : Fin 16) (s : Fin 2048) (l : Fin 1024) :
    mid V0 (ix3 b s l) + norm (fun k => ffn V0 (ix3 b s k)) (fun k => a10 V0 (ix2 1 k)) l
      = outRow (fun k => a0 V0 (ix3 b s k)) (fun k => a1 V0 (ix3 b s k))
      (fun k => a2 V0 (ix3 b s k)) (fun k => a3 V0 (ix3 b s k)) (fun k => a4 V0 (ix3 b s k))
      (fun j k => a5 V0 (ix3 1 j k)) (fun k => a6 V0 (ix2 1 k)) (fun k => a7 V0 (ix2 1 k))
      (fun j k => a8 V0 (ix3 1 j k)) (fun j k => a9 V0 (ix3 1 j k)) (fun k => a10 V0 (ix2 1 k)) l := by
  unfold outRow
  have h1 : (fun k => mid V0 (ix3 b s k)) = midRow (fun k => a0 V0 (ix3 b s k)) (fun k => a1 V0 (ix3 b s k))
      (fun k => a2 V0 (ix3 b s k)) (fun k => a3 V0 (ix3 b s k)) (fun k => a4 V0 (ix3 b s k))
      (fun j k => a5 V0 (ix3 1 j k)) (fun k => a6 V0 (ix2 1 k)) := funext fun k => mid_apply V0 b s k
  have h2 : (fun k => ffn V0 (ix3 b s k)) = times (hidden (norm (fun k => mid V0 (ix3 b s k)) (fun k => a7 V0 (ix2 1 k)))
      (fun j k => a8 V0 (ix3 1 j k))) (fun j k => a9 V0 (ix3 1 j k)) := funext fun k => by
    refine (ffn_apply V0 b s k).trans (Finset.sum_congr rfl fun x _ => ?_)
    exact congrArg₂ (fun u v => silu u * v * a9 V0 (ix3 1 x k)) (gateUp_apply V0 b s _) (gateUp_apply V0 b s _)
  rw [← h1, ← h2]

/-- The reference's result at a token and a column. -/
theorem result_apply (i : Fin 32768) (l : Fin 1024) :
    val2 V0 (Proc.devRef .tc main_v65) (ix2 i l)
      = outRow (fun k => a0 V0 (ix3 ⟨i.val / 2048, by omega⟩ ⟨i.val % 2048, by omega⟩ k))
      (fun k => a1 V0 (ix3 ⟨i.val / 2048, by omega⟩ ⟨i.val % 2048, by omega⟩ k))
      (fun k => a2 V0 (ix3 ⟨i.val / 2048, by omega⟩ ⟨i.val % 2048, by omega⟩ k))
      (fun k => a3 V0 (ix3 ⟨i.val / 2048, by omega⟩ ⟨i.val % 2048, by omega⟩ k))
      (fun k => a4 V0 (ix3 ⟨i.val / 2048, by omega⟩ ⟨i.val % 2048, by omega⟩ k))
      (fun j k => a5 V0 (ix3 1 j k)) (fun k => a6 V0 (ix2 1 k)) (fun k => a7 V0 (ix2 1 k))
      (fun j k => a8 V0 (ix3 1 j k)) (fun j k => a9 V0 (ix3 1 j k)) (fun k => a10 V0 (ix2 1 k)) l := by
  refine Eq.trans ?_ (out_apply V0 ⟨i.val / 2048, by omega⟩ ⟨i.val % 2048, by omega⟩ l)
  rw [val2_main_v65]
  pointwise
  rfl

end Cert.Proof.BackRef

end
-- ==== Proof.BackClaim.lean ====
/-
  The claims about the layer's back half: the two programs end with the same array, each token's `outRow`.
-/
module

public import proofs.«01_k».proof.Defs
public import proofs.«01_k».proof.Proof.Gen.Back.Frame
public import proofs.«01_k».proof.Proof.BackArray
public import proofs.«01_k».proof.Proof.BackRef
public import Idealize.ShloMosaic.Lib.Quiescent

@[expose] public section

set_option maxRecDepth 16384

noncomputable section

namespace Cert.Proof.Back

open Idealize.ShloMosaic Idealize.ShloMosaic.TcCoe Idealize.SL.Sem

theorem frame_k : Cert.quiescent_Back := fun m ρ _ => Cert.Back.Gen.frame m ρ
theorem frame_ki : Cert.quiescent_BackIdeal := fun m ρ _ => Cert.BackIdeal.Gen.frame m ρ
/-- The reference is host code: its run leaves the arguments, and it has no semaphore. -/
theorem frame_r : Cert.quiescent_BackReferenceIdeal := fun m ρ _ =>
  (θ_run Cert.BackReferenceIdeal.defs _ _).mono (fun r h => ⟨fun c => (h c).2,
      Idealize.ShloMosaic.sem_eq_zero_of_no_sems (by decide) r.2⟩)
    (Cert.BackReferenceIdeal.Value.run (F := Ideal) m ρ)

/-- From memories that agree on the arguments, the kernel's array is the reference's. -/
theorem algebraic : Cert.algebraic_BackIdeal_BackReferenceIdeal := by
  intro m g m' g' _ hargs
  refine ⟨fun c => result m c, ?_, ?_⟩
  · refine (θ_run Cert.BackIdeal.defs _ _).mono (fun r h c => ?_) (Cert.BackIdeal.Value.run_blocks (F := Ideal) m g)
    exact ⟨(h c).1.trans (final m c), (h c).2⟩
  · refine (θ_run Cert.BackReferenceIdeal.defs _ _).mono (fun r h c => ?_) (Cert.BackReferenceIdeal.Value.run (F := Ideal) m' g')
    refine ⟨(h c).1.trans ?_, (h c).2⟩
    obtain ⟨e0, e1, e2, e3, e4, e5, e6, e7, e8, e9, e10⟩ := hargs c
    rw [← Cert.BackReferenceIdeal.Value.val2_main_v65]
    funext z
    have hz : z = ix2 (z 0) (z 1) := by funext a; match a with | ⟨0, _⟩ => rfl | ⟨1, _⟩ => rfl
    rw [hz]
    refine (BackRef.result_apply _ _ _).trans ?_
    exact outRow_congr (fun k => congrFun e0 _) (fun k => congrFun e1 _) (fun k => congrFun e2 _) (fun k => congrFun e3 _)
      (fun k => congrFun e4 _) (fun j k => congrFun e5 _) (fun k => congrFun e6 _) (fun k => congrFun e7 _)
      (fun j k => congrFun e8 _) (fun j k => congrFun e9 _) (fun k => congrFun e10 _) _

end Cert.Proof.Back

end
-- ==== Proof.FrontMath.lean ====
/-
  The layer's projections and its spatial gating, as mathematics on the extended reals: a token's row is normalised and
  multiplied by the input weights; the gating mixes the rows of a chunk of 128 tokens, per head, by a lower triangular
  matrix. The two programs are each shown to compute `proj` and `gating` of the arguments.
-/
module

public import Idealize.ShloMosaic.Lib.Pointwise
public import proofs.«01_k».proof.Proof.BackMath

@[expose] public section

noncomputable section

namespace Cert.Proof.Front

open Idealize.ShloMosaic Cert.Proof.Back

/-- The width of a gating row and the small number under its root, as the two programs spell them. -/
abbrev wide : EReal := Ideal.ofBits .f32 0x43800000#32
abbrev small : EReal := Ideal.ofBits .f32 0x3727C5AC#32

/-- A row less its mean. -/
def center (v : Fin 256 → EReal) (l : Fin 256) : EReal := v l - Ideal.div (∑ k, v k) wide

/-- A row less its mean, over its deviation, times a gain. -/
def lnorm (v g : Fin 256 → EReal) (l : Fin 256) : EReal :=
  center v l * Ideal.rsqrt (Ideal.div (∑ k, center v k * center v k) wide + small) * g l

/-- A token's projected row: its normalised row times the input weights. -/
def proj {p : ℕ} (x g : Fin 1024 → EReal) (w : Fin 1024 → Fin p → EReal) (k : Fin p) : EReal := times (norm x g) w k

/-- The head of a lane. -/
abbrev head (l : Fin 256) : Fin 4 := ⟨l.val / 64, by omega⟩

/-- Row `t` of a gated chunk: its first half, times the mix of the chunk's normalised second halves up to row `t`. -/
def gating (z : Fin 128 → Fin 512 → EReal) (g : Fin 256 → EReal) (w : Fin 4 → Fin 128 → Fin 128 → EReal)
    (b : Fin 4 → Fin 128 → EReal) (t : Fin 128) (l : Fin 256) : EReal :=
  z t ⟨l.val, by omega⟩ * ((∑ j : Fin 128, (if j.val ≤ t.val then w (head l) t j else 0)
    * lnorm (fun k => z j ⟨256 + k.val, by omega⟩) g l) + b (head l) t)

/-- A sum over four stacked blocks of 128 rows. -/
theorem sum_four (f : Fin 512 → EReal) :
    ∑ k, f k = (∑ j : Fin 128, f ⟨j.val, by omega⟩) + (∑ j : Fin 128, f ⟨128 + j.val, by omega⟩)
      + (∑ j : Fin 128, f ⟨256 + j.val, by omega⟩) + ∑ j : Fin 128, f ⟨384 + j.val, by omega⟩ := by
  rw [show (∑ k, f k) = _ from Fin.sum_univ_add (a := 384) (b := 128) f]
  refine congrArg₂ (· + ·) ?_ rfl
  rw [Fin.sum_univ_add (a := 256) (b := 128)]
  refine congrArg₂ (· + ·) ?_ rfl
  exact Fin.sum_univ_add (a := 128) (b := 128) _

/-- Rows masked to their own head: the sum over the four heads' blocks is the sum over the lane's own block. -/
theorem sum_masked (w : Fin 512 → EReal) (v : Fin 128 → EReal) (h : Fin 4) :
    ∑ k : Fin 512, w k * (if k.val / 128 = h.val then v ⟨k.val % 128, by omega⟩ else 0)
      = ∑ j : Fin 128, w ⟨h.val * 128 + j.val, by omega⟩ * v j := by
  rw [sum_four]
  have d0 : ∀ j : Fin 128, j.val / 128 = 0 := fun j => by omega
  have d1 : ∀ j : Fin 128, (128 + j.val) / 128 = 1 := fun j => by omega
  have d2 : ∀ j : Fin 128, (256 + j.val) / 128 = 2 := fun j => by omega
  have d3 : ∀ j : Fin 128, (384 + j.val) / 128 = 3 := fun j => by omega
  have m0 : ∀ j : Fin 128, j.val % 128 = j.val := fun j => by omega
  have m1 : ∀ j : Fin 128, (128 + j.val) % 128 = j.val := fun j => by omega
  have m2 : ∀ j : Fin 128, (256 + j.val) % 128 = j.val := fun j => by omega
  have m3 : ∀ j : Fin 128, (384 + j.val) % 128 = j.val := fun j => by omega
  simp only [d0, d1, d2, d3, m0, m1, m2, m3]
  match h with
  | ⟨0, _⟩ => simp
  | ⟨1, _⟩ => simp
  | ⟨2, _⟩ => simp
  | ⟨3, _⟩ => simp

end Cert.Proof.Front

end
-- ==== Proof.FrontChunk.lean ====
/-
  One chunk of the gating as the body computes it: 128 rows of the projections, the masked mixing weights of the four heads
  side by side.
-/
module

public import proofs.«01_k».proof.Proof.Gen.FrontIdeal.Skeleton
public import proofs.«01_k».proof.Proof.FrontMath

@[expose] public section

set_option maxRecDepth 16384

noncomputable section

namespace Cert.Proof.Front

open Idealize.ShloMosaic Cert.FrontIdeal Cert.FrontIdeal.Gen

/-- The head of a lane, counted on the integers. -/
theorem lane_head (r : Fin 128) (l : Fin 256) : k0_pay496 (ix2 r l) = BitVec.ofNat 32 (l.val / 64) := by
  pointwise [k0_pay496]
  revert l
  decide +kernel

/-- A lane kept where it is of the given head, zero elsewhere. -/
theorem pick {p : BitVec 32} {q : ℕ} (hp : ∀ l : Fin 256, IntOp.cmpi .eq (BitVec.ofNat 32 (l.val / 64)) p
    = if q = l.val / 64 then 1#1 else 0#1) (r : Fin 128) (l : Fin 256) (a : EReal) :
    Scalar.select (IntOp.cmpi .eq (k0_pay496 (ix2 r l)) p) a (0 : EReal)
      = if q = l.val / 64 then a else 0 := by
  rw [lane_head, hp]
  split <;> rfl

/-- Four blocks of 128 rows one above the other, each kept on its own head's lanes. -/
theorem stacked (X : Fin 128 → EReal) (q : ℕ) (k : Fin 512) :
    (if h : k.val < 128 then (if 0 = q then X ⟨k.val, h⟩ else 0)
      else if h : k.val - 128 < 128 then (if 1 = q then X ⟨k.val - 128, h⟩ else 0)
      else if h : k.val - 128 - 128 < 128 then (if 2 = q then X ⟨k.val - 128 - 128, h⟩ else 0)
      else (if 3 = q then X ⟨k.val - 128 - 128 - 128, by omega⟩ else 0))
      = if k.val / 128 = q then X ⟨k.val % 128, by omega⟩ else 0 := by
  have e : ∀ (n : ℕ) (hn : n < 128) (c : ℕ), k.val / 128 = c → k.val % 128 = n →
      (if c = q then X ⟨n, hn⟩ else 0) = if k.val / 128 = q then X ⟨k.val % 128, by omega⟩ else 0 := by
    intro n hn c hc hm
    subst hc; subst hm; rfl
  split
  · exact e _ _ _ (by omega) (by omega)
  · split
    · exact e _ _ _ (by omega) (by omega)
    · split
      · exact e _ _ _ (by omega) (by omega)
      · exact e _ _ _ (by omega) (by omega)

/-- The mixing weights kept on and below the diagonal of each head's square. -/
theorem mask_apply (u : Vec Ideal S1x128x512 .f32) (t : Fin 128) (k : Fin 512) :
    k0_pay485 (iota .tc S128x512 32 [0] iota_S128x512_d0_w32) (iota .tc S128x512 32 [1] iota_S128x512_d1_w32) 128#32 0#32 u (ix2 t k)
     = if k.val % 128 ≤ t.val then u (ix3 0 t k) else 0 := by
  have low : ∀ a b : Fin 128, IntOp.cmpi .sge (BitVec.ofNat 32 a.val) (BitVec.ofNat 32 b.val)
      = if b.val ≤ a.val then 1#1 else 0#1 := by decide +kernel
  have h : k0_pay485 (F := Ideal) (iota .tc S128x512 32 [0] iota_S128x512_d0_w32)
      (iota .tc S128x512 32 [1] iota_S128x512_d1_w32) 128#32 0#32 u (ix2 t k)
      = Scalar.select (IntOp.cmpi .sge (BitVec.ofNat 32 t.val)
          (BitVec.ofNat 32 (⟨k.val % 128, by omega⟩ : Fin 128).val)) (u (ix3 0 t k)) (0 : EReal) := by
    pointwise [k0_pay485]
    refine congrArg (fun c => Scalar.select (IntOp.cmpi .sge (BitVec.ofNat 32 t.val) c) _ _) ?_
    clear u
    revert k
    decide +kernel
  rw [h, low]
  split <;> rfl

/-- What the body stores of one chunk: its rows, the weights, the gain and the bias. -/
def gateVec (w : FVec Ideal S128x512 .bf16) (g : FVec Ideal S1x256 .f32) (b : FVec Ideal S128x256 .f32)
    (z : FVec Ideal S128x512 .f32) : FVec Ideal S1x128x256 .bf16 :=
  k0_pay502 w g b k0_pay496 (extractStridedSlice S128x256 ![0, 0] z slices_S128x512_o0_0_S128x256)
    (extractStridedSlice S128x256 ![0, 256] z slices_S128x512_o0_256_S128x256)
    (shapeCast S128x1 (multiReduction .add [1] S128
      (extractStridedSlice S128x256 ![0, 256] z slices_S128x512_o0_256_S128x256) 0x00000000#32 reduces_S128x256_S128 (.inl rfl) rfl)
      shapeCasts_S128_S128x1) k0_pay501

/-- The stored entry from the two halves `u`, `v` of the rows and the sums `m` of the second half. -/
theorem pay502_apply (w : FVec Ideal S128x512 .bf16) (g : FVec Ideal S1x256 .f32) (b u v : FVec Ideal S128x256 .f32)
    (m : FVec Ideal S128x1 .f32) (hm : ∀ j : Fin 128, m (ix2 j 0) = ∑ k : Fin 256, v (ix2 j k)) (t : Fin 128) (l : Fin 256) :
    k0_pay502 w g b k0_pay496 u v m k0_pay501 (ix3 0 t l) = u (ix2 t l)
      * ((∑ j : Fin 128, w (ix2 t ⟨(head l).val * 128 + j.val, by omega⟩)
          * lnorm (fun k => v (ix2 j k)) (fun k => g (ix2 0 k)) l) + b (ix2 t l)) := by
  rw [← sum_masked (fun k => w (ix2 t k))]
  pointwise [k0_pay502, k0_pay501, dot_S128x512_S512x256_S128x256_1_0_0_1_n_n]
  refine congrArg₂ (· * ·) rfl (congrArg₂ (· + ·) (Finset.sum_congr rfl fun k _ => congrArg₂ (· * ·) rfl ?_) rfl)
  simp only [pick (p := 0#32) (q := 0) (by decide +kernel), pick (p := 1#32) (q := 1) (by decide +kernel),
    pick (p := 2#32) (q := 2) (by decide +kernel), pick (p := 3#32) (q := 3) (by decide +kernel), hm]
  exact stacked (fun j => lnorm (fun k => v (ix2 j k)) (fun k => g (ix2 0 k)) l) (l.val / 64) k

theorem gate_apply (w : FVec Ideal S128x512 .bf16) (g : FVec Ideal S1x256 .f32) (b : FVec Ideal S128x256 .f32)
    (z : FVec Ideal S128x512 .f32) (t : Fin 128) (l : Fin 256) :
    gateVec w g b z (ix3 0 t l) = z (ix2 t ⟨l.val, by omega⟩)
      * ((∑ j : Fin 128, w (ix2 t ⟨(head l).val * 128 + j.val, by omega⟩)
          * lnorm (fun k => z (ix2 j ⟨256 + k.val, by omega⟩)) (fun k => g (ix2 0 k)) l) + b (ix2 t l)) := by
  unfold gateVec
  rw [pay502_apply _ _ _ _ _ _ (fun j => by pointwise)]
  pointwise

/-! The eight stored chunks: the body's operations, cut at different places, are `gateVec` of the chunk's rows. -/

section
variable (z : FVec Ideal S1024x512 .f32) (w : FVec Ideal S128x512 .bf16) (g : FVec Ideal S1x256 .f32) (b : FVec Ideal S128x256 .f32)

theorem piece0 : k0_pay493 b (k0_pay491 z) (k0_pay492 z w g (iota .tc S128x256 32 [1] iota_S128x256_d1_w32) 64#32 k0_pay488 k0_pay489 1#32)
    = gateVec w g b (k0_pay490 z) := rfl
theorem piece1 : k0_pay502 w g b k0_pay496 (k0_pay498 z) (k0_pay499 z) (k0_pay500 z) k0_pay501
    = gateVec w g b (k0_pay497 z) := rfl
theorem piece2 : k0_pay509 w b k0_pay505 (k0_pay507 z) (k0_pay508 z g) (Scalar.ofBits .bf16 0x0000#16)
    = gateVec w g b (k0_pay506 z) := rfl
theorem piece3 : k0_pay517 b (k0_pay515 z) (k0_pay516 z w g (iota .tc S128x256 32 [1] iota_S128x256_d1_w32) 64#32 k0_pay512 k0_pay513 1#32)
    = gateVec w g b (k0_pay514 z) := rfl
theorem piece4 : k0_pay526 w g b k0_pay520 (k0_pay522 z) (k0_pay523 z) (k0_pay524 z) k0_pay525
    = gateVec w g b (k0_pay521 z) := rfl
theorem piece5 : k0_pay533 w b k0_pay529 (k0_pay531 z) (k0_pay532 z g) (Scalar.ofBits .bf16 0x0000#16)
    = gateVec w g b (k0_pay530 z) := rfl
theorem piece6 : k0_pay541 b (k0_pay539 z) (k0_pay540 z w g (iota .tc S128x256 32 [1] iota_S128x256_d1_w32) 64#32 k0_pay536 k0_pay537 1#32)
    = gateVec w g b (k0_pay538 z) := rfl
theorem piece7 : k0_pay1 w b k0_pay544 (k0_pay546 z) (k0_pay550 g (k0_pay547 z) (k0_pay548 z) k0_pay549) k0_pay551 0#32
    = gateVec w g b (k0_pay545 z) := rfl

theorem rows0 (r : Fin 128) (k : Fin 512) : k0_pay490 z (ix2 r k) = z (ix2 ⟨0 * 128 + r.val, by omega⟩ k) := by
  pointwise [k0_pay490]
theorem rows1 (r : Fin 128) (k : Fin 512) : k0_pay497 z (ix2 r k) = z (ix2 ⟨1 * 128 + r.val, by omega⟩ k) := by
  pointwise [k0_pay497]
theorem rows2 (r : Fin 128) (k : Fin 512) : k0_pay506 z (ix2 r k) = z (ix2 ⟨2 * 128 + r.val, by omega⟩ k) := by
  pointwise [k0_pay506]
theorem rows3 (r : Fin 128) (k : Fin 512) : k0_pay514 z (ix2 r k) = z (ix2 ⟨3 * 128 + r.val, by omega⟩ k) := by
  pointwise [k0_pay514]
theorem rows4 (r : Fin 128) (k : Fin 512) : k0_pay521 z (ix2 r k) = z (ix2 ⟨4 * 128 + r.val, by omega⟩ k) := by
  pointwise [k0_pay521]
theorem rows5 (r : Fin 128) (k : Fin 512) : k0_pay530 z (ix2 r k) = z (ix2 ⟨5 * 128 + r.val, by omega⟩ k) := by
  pointwise [k0_pay530]
theorem rows6 (r : Fin 128) (k : Fin 512) : k0_pay538 z (ix2 r k) = z (ix2 ⟨6 * 128 + r.val, by omega⟩ k) := by
  pointwise [k0_pay538]
theorem rows7 (r : Fin 128) (k : Fin 512) : k0_pay545 z (ix2 r k) = z (ix2 ⟨7 * 128 + r.val, by omega⟩ k) := by
  pointwise [k0_pay545]

end

/-! The normalised row and its projections. -/

section
variable (x : Vec Ideal S1x1024x1024 .f32) (g : Vec Ideal S1x1x1024 .f32) (w : Vec Ideal S1x1024x512 .bf16)

theorem row_apply (r l : Fin 1024) : k0_pay13 (k0_pay10 x) (k0_pay11 g) (k0_pay12 x) (ix2 r l)
    = Back.norm (fun k => x (ix3 0 r k)) (fun k => g (ix3 0 0 k)) l := by
  pointwise [k0_pay13, k0_pay12, k0_pay11, k0_pay10]
  rfl

theorem za_apply (r : Fin 1024) (k : Fin 512) : k0_pay194 (k0_pay13 (k0_pay10 x) (k0_pay11 g) (k0_pay12 x)) w (ix2 r k)
    = proj (fun k => x (ix3 0 r k)) (fun k => g (ix3 0 0 k)) (fun j k => w (ix3 0 j k)) k := by
  pointwise [k0_pay194, dot_S1024x1024_S1024x512_S1024x512_1_0_0_1_n_n, row_apply]
  rfl

theorem zq_apply (r : Fin 1024) (k : Fin 256) :
    k0_pay158 (k0_pay157 (k0_pay111 (k0_pay13 (k0_pay10 x) (k0_pay11 g) (k0_pay12 x)) w)) (ix3 0 r k)
    = proj (fun k => x (ix3 0 r k)) (fun k => g (ix3 0 0 k)) (fun j k => w (ix3 0 j k)) ⟨k.val, by omega⟩ := by
  pointwise [k0_pay158, k0_pay157, k0_pay111, dot_S1024x1024_S1024x512_S1024x512_1_0_0_1_n_n, row_apply]
  rfl

theorem zkv_apply (r : Fin 1024) (k : Fin 512) : k0_pay310 (k0_pay13 (k0_pay10 x) (k0_pay11 g) (k0_pay12 x)) w (ix3 0 r k)
    = proj (fun k => x (ix3 0 r k)) (fun k => g (ix3 0 0 k)) (fun j k => w (ix3 0 j k)) k := by
  pointwise [k0_pay310, dot_S1024x1024_S1024x512_S1024x512_1_0_0_1_n_n, row_apply]
  rfl

end

end Cert.Proof.Front

end
-- ==== Proof.FrontBlock.lean ====
/-
  What a point of the front half's call leaves in its three blocks, from the blocks it reads.
-/
module

public import proofs.«01_k».proof.Proof.Gen.FrontIdeal.Value
public import proofs.«01_k».proof.Proof.FrontChunk
public import Idealize.ShloMosaic.Lib.Pipeline.ValueKit

@[expose] public section

set_option maxRecDepth 16384

noncomputable section

namespace Cert.Proof.Front

open Idealize.ShloMosaic Idealize.ShloMosaic.TcCoe Idealize.SL.Sem Cert.FrontIdeal Cert.FrontIdeal.Gen
open Idealize.ShloMosaic.Pipeline (Dat)

section
variable (x : Vec Ideal S1x1024x1024 .f32) (g : Vec Ideal S1x1x1024 .f32) (w : Vec Ideal S1x1024x2048 .bf16)
  (sg : Vec Ideal S1x1x256 .f32) (sw : Vec Ideal S1x128x512 .f32) (sb : Vec Ideal S1x128x256 .f32)

/-- The block's normalised rows. -/
def rowsVec : FVec Ideal S1024x1024 .bf16 := k0_pay13 (k0_pay10 x) (k0_pay11 g) (k0_pay12 x)

/-- The three blocks of weights the body reads. -/
def wA : Vec Ideal S1x1024x512 .bf16 := View.ld w (Rect.unit ![0, 0, 0] ![1, 1024, 512] inb_S1x1024x2048_S1x1024x512_0_0_0)
def wQ : Vec Ideal S1x1024x512 .bf16 := View.ld w (Rect.unit ![0, 0, 1024] ![1, 1024, 512] inb_S1x1024x2048_S1x1024x512_0_0_1024)
def wKV : Vec Ideal S1x1024x512 .bf16 := View.ld w (Rect.unit ![0, 0, 1536] ![1, 1024, 512] inb_S1x1024x2048_S1x1024x512_0_0_1536)

theorem wA_apply (j : Fin 1024) (k : Fin 512) : wA w (ix3 0 j k) = w (ix3 0 j ⟨k.val, by omega⟩) :=
  congrArg w (funext fun a => Fin.ext (match a with
    | ⟨0, _⟩ => rfl
    | ⟨1, _⟩ => by show 0 + 1 * j.val = j.val; omega
    | ⟨2, _⟩ => by show 0 + 1 * k.val = k.val; omega))
theorem wQ_apply (j : Fin 1024) (k : Fin 512) : wQ w (ix3 0 j k) = w (ix3 0 j ⟨1024 + k.val, by omega⟩) :=
  congrArg w (funext fun a => Fin.ext (match a with
    | ⟨0, _⟩ => rfl
    | ⟨1, _⟩ => by show 0 + 1 * j.val = j.val; omega
    | ⟨2, _⟩ => by show 1024 + 1 * k.val = 1024 + k.val; omega))
theorem wKV_apply (j : Fin 1024) (k : Fin 512) : wKV w (ix3 0 j k) = w (ix3 0 j ⟨1536 + k.val, by omega⟩) :=
  congrArg w (funext fun a => Fin.ext (match a with
    | ⟨0, _⟩ => rfl
    | ⟨1, _⟩ => by show 0 + 1 * j.val = j.val; omega
    | ⟨2, _⟩ => by show 1536 + 1 * k.val = 1536 + k.val; omega))

/-- The three blocks as the body leaves them. -/
def blockQ : Vec Ideal S1x1024x256 .f32 := k0_pay158 (k0_pay157 (k0_pay111 (rowsVec x g) (wQ w)))
def blockKV : Vec Ideal S1x1024x512 .f32 := k0_pay310 (rowsVec x g) (wKV w)
def gateRows : FVec Ideal S1024x512 .f32 := k0_pay194 (rowsVec x g) (wA w)
def mixing : FVec Ideal S128x512 .bf16 := k0_pay485 (iota .tc S128x512 32 [0] iota_S128x512_d0_w32)
  (iota .tc S128x512 32 [1] iota_S128x512_d1_w32) 128#32 0#32 sw
/-- One stored chunk, from its rows. -/
def chunk (z : FVec Ideal S128x512 .f32) : Vec Ideal S1x128x256 .bf16 := gateVec (mixing sw) (k0_pay486 sg) (k0_pay487 sb) z
def piecesA (z : FVec Ideal S1024x512 .f32) : List (View.Piece (Elt Ideal) S1x1024x256 .bf16) :=
  [⟨Rect.unit ![0, 896, 0] ![1, 128, 256] inb_S1x1024x256_S1x128x256_0_896_0, chunk sg sw sb (k0_pay545 z)⟩,
   ⟨Rect.unit ![0, 768, 0] ![1, 128, 256] inb_S1x1024x256_S1x128x256_0_768_0, chunk sg sw sb (k0_pay538 z)⟩,
   ⟨Rect.unit ![0, 640, 0] ![1, 128, 256] inb_S1x1024x256_S1x128x256_0_640_0, chunk sg sw sb (k0_pay530 z)⟩,
   ⟨Rect.unit ![0, 512, 0] ![1, 128, 256] inb_S1x1024x256_S1x128x256_0_512_0, chunk sg sw sb (k0_pay521 z)⟩,
   ⟨Rect.unit ![0, 384, 0] ![1, 128, 256] inb_S1x1024x256_S1x128x256_0_384_0, chunk sg sw sb (k0_pay514 z)⟩,
   ⟨Rect.unit ![0, 256, 0] ![1, 128, 256] inb_S1x1024x256_S1x128x256_0_256_0, chunk sg sw sb (k0_pay506 z)⟩,
   ⟨Rect.unit ![0, 128, 0] ![1, 128, 256] inb_S1x1024x256_S1x128x256_0_128_0, chunk sg sw sb (k0_pay497 z)⟩,
   ⟨Rect.unit ![0, 0, 0] ![1, 128, 256] inb_S1x1024x256_S1x128x256_0_0_0, chunk sg sw sb (k0_pay490 z)⟩]
def blockA : Vec Ideal S1x1024x256 .bf16 := View.canon (piecesA sg sw sb (gateRows x g w))

/-- A stored chunk is the gating of its rows, the bias read by head. -/
theorem chunk_apply (bias : Fin 4 → Fin 128 → EReal) (hb : ∀ t l, sb (ix3 0 t l) = bias (head l) t)
    (z : FVec Ideal S128x512 .f32) (t : Fin 128) (l : Fin 256) :
    chunk sg sw sb z (ix3 0 t l) = gating (fun t k => z (ix2 t k)) (fun k => sg (ix3 0 0 k))
      (fun h t j => sw (ix3 0 t ⟨h.val * 128 + j.val, by omega⟩)) bias t l := by
  refine (gate_apply _ _ _ _ _ _).trans ?_
  have h1 : ∀ k : Fin 256, k0_pay486 sg (ix2 0 k) = sg (ix3 0 0 k) := fun k => by pointwise [k0_pay486]
  have h2 : k0_pay487 sb (ix2 t l) = sb (ix3 0 t l) := by pointwise [k0_pay487]
  simp only [h1, h2, hb]
  unfold gating
  refine congrArg₂ (· * ·) rfl (congrArg₂ (· + ·) (Finset.sum_congr rfl fun j _ => congrArg₂ (· * ·) ?_ rfl) rfl)
  refine (mask_apply sw t _).trans ?_
  have e : ((head l).val * 128 + j.val) % 128 = j.val := by omega
  simp only [e]

/-- The block's entry at row `r`: the gating of the rows of `r`'s chunk. -/
def gatedAt (z : FVec Ideal S1024x512 .f32) (bias : Fin 4 → Fin 128 → EReal) (y : S1x1024x256.Idx) : EReal :=
  gating (fun t k => z (ix2 ⟨(y 1).val / 128 * 128 + t.val, by have : (y 1).val < 1024 := (y 1).isLt; omega⟩ k))
    (fun k => sg (ix3 0 0 k)) (fun h t j => sw (ix3 0 t ⟨h.val * 128 + j.val, by omega⟩)) bias
    ⟨(y 1).val % 128, by omega⟩ (y 2)

theorem chunk_at (z : FVec Ideal S1024x512 .f32) (bias : Fin 4 → Fin 128 → EReal) (hb : ∀ t l, sb (ix3 0 t l) = bias (head l) t)
    (i : Fin 8) (zc : FVec Ideal S128x512 .f32) (hz : ∀ r k, zc (ix2 r k) = z (ix2 ⟨i.val * 128 + r.val, by omega⟩ k))
    (u : S1x128x256.Idx) (y : S1x1024x256.Idx) (h1 : (y 1).val = i.val * 128 + (u 1).val) (h2 : (y 2).val = (u 2).val) :
    chunk sg sw sb zc u = gatedAt sg sw z bias y := by
  have hu1 : (u 1).val < 128 := (u 1).isLt
  have hu : u = ix3 0 (u 1) (u 2) := by
    funext a
    match a with
    | ⟨0, _⟩ => exact Fin.ext (by have : (u 0).val < 1 := (u 0).isLt; show (u 0).val = 0; omega)
    | ⟨1, _⟩ => rfl
    | ⟨2, _⟩ => rfl
  rw [hu]
  refine (chunk_apply sg sw sb bias hb zc (u 1) (u 2)).trans ?_
  unfold gatedAt
  have e1 : (⟨(y 1).val % 128, by omega⟩ : Fin 128) = u 1 := Fin.ext (by show (y 1).val % 128 = (u 1).val; omega)
  have e2 : (y 2 : Fin 256) = u 2 := Fin.ext h2
  rw [e1, e2]
  refine congrArg (fun f => gating f _ _ _ _ _) (funext fun t => funext fun k => (hz t k).trans ?_)
  exact congrArg (fun q => z (ix2 q k)) (Fin.ext (by show i.val * 128 + t.val = (y 1).val / 128 * 128 + t.val; omega))

/-- The whole block of gated rows. -/
theorem canon_pieces (z : FVec Ideal S1024x512 .f32) (bias : Fin 4 → Fin 128 → EReal)
    (hb : ∀ t l, sb (ix3 0 t l) = bias (head l) t) (y : S1x1024x256.Idx) :
    View.canon (piecesA sg sw sb z) y = gatedAt sg sw z bias y := by
  refine View.canon_apply_of_pieces (Val := Elt Ideal) (e := .bf16) (gatedAt sg sw z bias) (piecesA sg sw sb z) ?_ y
    (View.cover_of_tiledL (piecesA sg sw sb z) S1x128x256.size (by sl_kernel_rfl) y)
  unfold piecesA
  simp only [List.forall_mem_cons, List.not_mem_nil, false_imp_iff, implies_true, and_true]
  refine ⟨fun u => ?_, fun u => ?_, fun u => ?_, fun u => ?_, fun u => ?_, fun u => ?_, fun u => ?_, fun u => ?_⟩
  · exact chunk_at sg sw sb z bias hb 7 _ (rows7 z) u _ (by show 896 + 1 * (u 1).val = 7 * 128 + (u 1).val; omega) (by show 0 + 1 * (u 2).val = _; omega)
  · exact chunk_at sg sw sb z bias hb 6 _ (rows6 z) u _ (by show 768 + 1 * (u 1).val = 6 * 128 + (u 1).val; omega) (by show 0 + 1 * (u 2).val = _; omega)
  · exact chunk_at sg sw sb z bias hb 5 _ (rows5 z) u _ (by show 640 + 1 * (u 1).val = 5 * 128 + (u 1).val; omega) (by show 0 + 1 * (u 2).val = _; omega)
  · exact chunk_at sg sw sb z bias hb 4 _ (rows4 z) u _ (by show 512 + 1 * (u 1).val = 4 * 128 + (u 1).val; omega) (by show 0 + 1 * (u 2).val = _; omega)
  · exact chunk_at sg sw sb z bias hb 3 _ (rows3 z) u _ (by show 384 + 1 * (u 1).val = 3 * 128 + (u 1).val; omega) (by show 0 + 1 * (u 2).val = _; omega)
  · exact chunk_at sg sw sb z bias hb 2 _ (rows2 z) u _ (by show 256 + 1 * (u 1).val = 2 * 128 + (u 1).val; omega) (by show 0 + 1 * (u 2).val = _; omega)
  · exact chunk_at sg sw sb z bias hb 1 _ (rows1 z) u _ (by show 128 + 1 * (u 1).val = 1 * 128 + (u 1).val; omega) (by show 0 + 1 * (u 2).val = _; omega)
  · exact chunk_at sg sw sb z bias hb 0 _ (rows0 z) u _ (by show 0 + 1 * (u 1).val = 0 * 128 + (u 1).val; omega) (by show 0 + 1 * (u 2).val = _; omega)

end

/-! What a point writes back, in either case of the body. -/

variable (m : (ℓ : Loc nD τ sig) → Buf (Elt Ideal) ℓ) (c : Dev nD)

theorem flushed_q (t : Fin cfg0.N) : (dats m 0 c).flushed 17 t
    = (cfg0.win 17).cut (grid0.coords t) (blockQ (iblk m c 0 t) (iblk m c 1 t) (iblk m c 2 t)) := by
  by_cases h0 : t.val % 2 = 0
  · rw [Cert.FrontIdeal.Value.flushed17_A m c t h0]; frame_out; rfl
  · rw [Cert.FrontIdeal.Value.flushed17_B m c t h0]; frame_out; rfl

theorem flushed_kv (t : Fin cfg0.N) : (dats m 0 c).flushed 18 t
    = (cfg0.win 18).cut (grid0.coords t) (blockKV (iblk m c 0 t) (iblk m c 1 t) (iblk m c 2 t)) := by
  by_cases h0 : t.val % 2 = 0
  · rw [Cert.FrontIdeal.Value.flushed18_A m c t h0]; frame_out; rfl
  · rw [Cert.FrontIdeal.Value.flushed18_B m c t h0]; frame_out; rfl

theorem flushed_a (t : Fin cfg0.N) : (dats m 0 c).flushed 14 t = (cfg0.win 14).cut (grid0.coords t)
    (blockA (iblk m c 0 t) (iblk m c 1 t) (iblk m c 2 t) (iblk m c 3 t) (iblk m c 4 t) (iblk m c 5 t)) := by
  by_cases h0 : t.val % 2 = 0
  · rw [Cert.FrontIdeal.Value.flushed14_A m c t h0]; frame_out; rfl
  · rw [Cert.FrontIdeal.Value.flushed14_B m c t h0]; frame_out; rfl

end Cert.Proof.Front

end
-- ==== Proof.FrontArray.lean ====
/-
  The blocks the front half's call reads, as elements of the arguments: point `t` takes rows `1024 (t % 2) + r` of sequence
  `t / 2`, and of every weight layer 1 as the host code before the call lays it out.
-/
module

public import proofs.«01_k».proof.Proof.Gen.FrontIdeal.Frame.Runs
public import proofs.«01_k».proof.Proof.FrontMath
public import Idealize.ShloMosaic.Lib.Claim

@[expose] public section

set_option maxRecDepth 16384

noncomputable section

namespace Cert.Proof.Front

open Idealize.ShloMosaic Idealize.ShloMosaic.TcCoe Idealize.SL.Sem Cert.FrontIdeal Cert.FrontIdeal.Gen
open Idealize.ShloMosaic.Pipeline (Dat)

variable (m : (ℓ : Loc nD τ sig) → Buf (Elt Ideal) ℓ) (c : Dev nD)

/-- Which block each token window takes at a point. -/
theorem index_tokens : ∀ t : Fin cfg0.N, win0_0.index t = ![t.val / 2, t.val % 2, 0]
    ∧ win0_14.index t = ![t.val / 2, t.val % 2, 0] ∧ win0_17.index t = ![t.val / 2, t.val % 2, 0]
    ∧ win0_18.index t = ![t.val / 2, t.val % 2, 0] :=
  (by decide +kernel : ∀ t : Fin grid0.N, win0_0.index t = ![t.val / 2, t.val % 2, 0]
    ∧ win0_14.index t = ![t.val / 2, t.val % 2, 0] ∧ win0_17.index t = ![t.val / 2, t.val % 2, 0]
    ∧ win0_18.index t = ![t.val / 2, t.val % 2, 0])

/-- The sequence of point `t`, and the place in it of the point's row `r`. -/
abbrev seqOf (t : Fin cfg0.N) : Fin 16 := ⟨t.val / 2, by have := t.isLt; have : cfg0.N = 32 := N_0; omega⟩
abbrev rowOf (t : Fin cfg0.N) (r : Fin 1024) : Fin 2048 := ⟨t.val % 2 * 1024 + r.val, by omega⟩

theorem iblk_0 (t : Fin cfg0.N) (r k : Fin 1024) :
    iblk m c 0 t (ix3 0 r k) = V m c main_arg0 (ix3 (seqOf t) (rowOf t r) k) := by
  have e := (index_tokens t).1
  refine congrArg (V m c main_arg0) (funext fun a => Fin.ext ?_)
  match a with
  | ⟨0, _⟩ => show win0_0.index t 0 * 1 + 1 * 0 = t.val / 2; rw [e]; simp
  | ⟨1, _⟩ => show win0_0.index t 1 * 1024 + 1 * r.val = t.val % 2 * 1024 + r.val; rw [e]; simp
  | ⟨2, _⟩ => show win0_0.index t 2 * 1024 + 1 * k.val = k.val; rw [e]; simp

theorem iblk_1 (t : Fin cfg0.N) (k : Fin 1024) :
    iblk m c 1 t (ix3 0 0 k) = V m c main_v5 (ix3 1 0 k) := by
  refine congrArg (V m c main_v5) (funext fun a => Fin.ext ?_)
  match a with
  | ⟨0, _⟩ => rfl
  | ⟨1, _⟩ => rfl
  | ⟨2, _⟩ => show 0 * 1024 + 1 * k.val = k.val; omega

theorem iblk_2 (t : Fin cfg0.N) (j : Fin 1024) (k : Fin 2048) :
    iblk m c 2 t (ix3 0 j k) = V m c main_v6 (ix3 1 j k) := by
  refine congrArg (V m c main_v6) (funext fun a => Fin.ext ?_)
  match a with
  | ⟨0, _⟩ => rfl
  | ⟨1, _⟩ => show 0 * 1024 + 1 * j.val = j.val; omega
  | ⟨2, _⟩ => show 0 * 2048 + 1 * k.val = k.val; omega

theorem iblk_3 (t : Fin cfg0.N) (k : Fin 256) :
    iblk m c 3 t (ix3 0 0 k) = V m c main_v7 (ix3 1 0 k) := by
  refine congrArg (V m c main_v7) (funext fun a => Fin.ext ?_)
  match a with
  | ⟨0, _⟩ => rfl
  | ⟨1, _⟩ => rfl
  | ⟨2, _⟩ => show 0 * 256 + 1 * k.val = k.val; omega

theorem iblk_4 (t : Fin cfg0.N) (j : Fin 128) (k : Fin 512) :
    iblk m c 4 t (ix3 0 j k) = V m c main_v9 (ix3 1 j k) := by
  refine congrArg (V m c main_v9) (funext fun a => Fin.ext ?_)
  match a with
  | ⟨0, _⟩ => rfl
  | ⟨1, _⟩ => show 0 * 128 + 1 * j.val = j.val; omega
  | ⟨2, _⟩ => show 0 * 512 + 1 * k.val = k.val; omega

theorem iblk_5 (t : Fin cfg0.N) (j : Fin 128) (k : Fin 256) :
    iblk m c 5 t (ix3 0 j k) = V m c main_v12 (ix3 1 j k) := by
  refine congrArg (V m c main_v12) (funext fun a => Fin.ext ?_)
  match a with
  | ⟨0, _⟩ => rfl
  | ⟨1, _⟩ => show 0 * 128 + 1 * j.val = j.val; omega
  | ⟨2, _⟩ => show 0 * 256 + 1 * k.val = k.val; omega

theorem entry_x (b : Fin 16) (s : Fin 2048) (k : Fin 1024) : V m c main_arg0 (ix3 b s k)
    = m ((c : Thread nD τ).loc main_arg0) (ix3 b s k) := by
  entry_read
  rfl
theorem entry_g (k : Fin 1024) : V m c main_v5 (ix3 1 0 k)
    = m ((c : Thread nD τ).loc main_arg1) (ix2 1 k) := by
  entry_read
  pointwise
theorem entry_sg (k : Fin 256) : V m c main_v7 (ix3 1 0 k)
    = m ((c : Thread nD τ).loc main_arg3) (ix2 1 k) := by
  entry_read
  pointwise
theorem entry_sw (h : Fin 4) (t j : Fin 128) : V m c main_v9 (ix3 1 t ⟨h.val * 128 + j.val, by omega⟩)
    = m ((c : Thread nD τ).loc main_arg4) (ix4 1 h t j) := by
  entry_read
  pointwise
theorem entry_sb (t : Fin 128) (l : Fin 256) : V m c main_v12 (ix3 1 t l)
    = m ((c : Thread nD τ).loc main_arg5) (ix3 1 (head l) t) := by
  entry_read
  pointwise

/-- The input projection's columns as the call reads them: the first 1280, the last 256, the 396 between, then zeros. -/
def columns (w : S4x1024x1932.Idx → EReal) (j : Fin 1024) (k : Fin 2048) : EReal :=
  if h : k.val < 1280 then w (ix3 1 j ⟨k.val, by omega⟩)
  else if h : k.val - 1280 < 256 then w (ix3 1 j ⟨1676 + (k.val - 1280), by omega⟩)
  else if h : k.val - 1280 - 256 < 396 then w (ix3 1 j ⟨1280 + (k.val - 1280 - 256), by omega⟩)
  else 0

/-- The array of those columns, as the host code before the call computes it. -/
def columnsVec (w : Vec Ideal S4x1024x1932 .f32) : Vec Ideal S4x1024x2048 .bf16 := truncf (F := Ideal) (s := S4x1024x2048) (φ := .f32) .bf16 (concatenate S4x1024x2048 2
    [⟨S4x1024x1280, extractStridedSlice S4x1024x1280 ![0, 0, 0] w slices_S4x1024x1932_S4x1024x1280_0_0_0⟩,
     ⟨S4x1024x256, extractStridedSlice S4x1024x256 ![0, 0, 1676] w slices_S4x1024x1932_S4x1024x256_0_0_1676⟩,
     ⟨S4x1024x396, extractStridedSlice S4x1024x396 ![0, 0, 1280] w slices_S4x1024x1932_S4x1024x396_0_0_1280⟩,
     ⟨S4x1024x116, broadcastInDim S4x1024x116 ![] bcast_S_S4x1024x116 (constant (F := Ideal) S_ .f32 0x00000000#32 : Vec Ideal S_ .f32)⟩]
    concatenates_S4x1024x1280_S4x1024x256_S4x1024x396_S4x1024x116_S4x1024x2048_d2 : Vec Ideal S4x1024x2048 .f32) bitsLt_bf16_f32

theorem columnsVec_apply (w : Vec Ideal S4x1024x1932 .f32) (j : Fin 1024) (k : Fin 2048) :
    columnsVec w (ix3 1 j k) = columns w j k := by
  unfold columns
  pointwise [columnsVec]

theorem entry_v6 : V m c main_v6 = columnsVec (m ((c : Thread nD τ).loc main_arg2)) := rfl

theorem entry_w (j : Fin 1024) (k : Fin 2048) : V m c main_v6 (ix3 1 j k)
    = columns (m ((c : Thread nD τ).loc main_arg2)) j k :=
  (congrFun (entry_v6 m c) _).trans (columnsVec_apply _ j k)

theorem columns_low (w : S4x1024x1932.Idx → EReal) (j : Fin 1024) (k : ℕ) (h : k < 1280) :
    columns w j ⟨k, by omega⟩ = w (ix3 1 j ⟨k, by omega⟩) := by
  unfold columns
  rw [dif_pos h]

theorem columns_mid (w : S4x1024x1932.Idx → EReal) (j : Fin 1024) (k : ℕ) (h : k < 396) :
    columns w j ⟨1536 + k, by omega⟩ = w (ix3 1 j ⟨1280 + k, by omega⟩) := by
  unfold columns
  rw [dif_neg (by show ¬ 1536 + k < 1280; omega), dif_neg (by show ¬ 1536 + k - 1280 < 256; omega),
    dif_pos (by show 1536 + k - 1280 - 256 < 396; omega)]
  exact congrArg (fun e => w (ix3 1 j e)) (Fin.ext (by show 1280 + (1536 + k - 1280 - 256) = 1280 + k; omega))

theorem columns_high (w : S4x1024x1932.Idx → EReal) (j : Fin 1024) (k : ℕ) (h : 396 ≤ k) (h' : k < 512) :
    columns w j ⟨1536 + k, by omega⟩ = 0 := by
  unfold columns
  rw [dif_neg (by show ¬ 1536 + k < 1280; omega), dif_neg (by show ¬ 1536 + k - 1280 < 256; omega),
    dif_neg (by show ¬ 1536 + k - 1280 - 256 < 396; omega)]

/-! The three results, from the arguments. -/

/-- Column `k` of the projected row of token `s` of sequence `b`. -/
def zed (b : Fin 16) (s : Fin 2048) (k : Fin 1932) : EReal :=
  proj (fun k => m ((c : Thread nD τ).loc main_arg0) (ix3 b s k)) (fun k => m ((c : Thread nD τ).loc main_arg1) (ix2 1 k))
    (fun j k => m ((c : Thread nD τ).loc main_arg2) (ix3 1 j k)) k

/-- The gated rows. -/
def resultA (b : Fin 16) (s : Fin 2048) (l : Fin 256) : EReal :=
  gating (fun t k => zed m c b ⟨s.val / 128 * 128 + t.val, by omega⟩ ⟨k.val, by omega⟩)
    (fun k => m ((c : Thread nD τ).loc main_arg3) (ix2 1 k)) (fun h t j => m ((c : Thread nD τ).loc main_arg4) (ix4 1 h t j))
    (fun h t => m ((c : Thread nD τ).loc main_arg5) (ix3 1 h t)) ⟨s.val % 128, by omega⟩ l

/-- The queries. -/
def resultQ (b : Fin 16) (s : Fin 2048) (l : Fin 256) : EReal := zed m c b s ⟨1024 + l.val, by omega⟩

/-- The keys, values and gates, then zeros. -/
def resultKV (b : Fin 16) (s : Fin 2048) (l : Fin 512) : EReal :=
  if h : l.val < 396 then zed m c b s ⟨1280 + l.val, by omega⟩ else 0

/-- A block's projected column, for a column of the call's weights that is column `k'` of the argument's. -/
theorem proj_block (t : Fin cfg0.N) (r : Fin 1024) {p : ℕ} (w : Fin 1024 → Fin p → EReal) (k : Fin p) (k' : Fin 1932)
    (hw : ∀ j, w j k = m ((c : Thread nD τ).loc main_arg2) (ix3 1 j k')) :
    proj (fun k => iblk m c 0 t (ix3 0 r k)) (fun k => iblk m c 1 t (ix3 0 0 k)) w k = zed m c (seqOf t) (rowOf t r) k' := by
  have hx : (fun k => iblk m c 0 t (ix3 0 r k)) = fun k => m ((c : Thread nD τ).loc main_arg0) (ix3 (seqOf t) (rowOf t r) k) :=
    funext fun k => (iblk_0 m c t r k).trans (entry_x m c _ _ k)
  have hg : (fun k => iblk m c 1 t (ix3 0 0 k)) = fun k => m ((c : Thread nD τ).loc main_arg1) (ix2 1 k) :=
    funext fun k => (iblk_1 m c t k).trans (entry_g m c k)
  unfold zed proj Back.times
  rw [hx, hg]
  exact Finset.sum_congr rfl fun j _ => congrArg _ (hw j)

/-- And for a column of zeros. -/
theorem proj_zero (x g : Fin 1024 → EReal) {p : ℕ} (w : Fin 1024 → Fin p → EReal) (k : Fin p) (hw : ∀ j, w j k = 0) :
    proj x g w k = 0 := by
  unfold proj Back.times
  exact Finset.sum_eq_zero fun j _ => by rw [hw j, mul_zero]

end Cert.Proof.Front

end
-- ==== Proof.FrontFinal.lean ====
/-
  The three arrays the front half's call leaves: each point's blocks are the blocks of `resultA`, `resultQ` and `resultKV`, and
  the points' blocks cover the arrays.
-/
module

public import proofs.«01_k».proof.Proof.FrontBlock
public import proofs.«01_k».proof.Proof.FrontArray

@[expose] public section

set_option maxRecDepth 16384

noncomputable section

namespace Cert.Proof.Front

open Idealize.ShloMosaic Idealize.ShloMosaic.TcCoe Idealize.SL.Sem Cert.FrontIdeal Cert.FrontIdeal.Gen
open Idealize.ShloMosaic.Pipeline (Dat)

variable (m : (ℓ : Loc nD τ sig) → Buf (Elt Ideal) ℓ) (c : Dev nD)

/-- An index into a block is its row and column. -/
theorem eta3 {p q : ℕ} (z : (Shape.mk 3 ![1, p, q]).Idx) : z = ix3 0 (z 1) (z 2) := by
  funext a
  match a with
  | ⟨0, _⟩ => exact Fin.ext (by have : (z 0).val < 1 := (z 0).isLt; show (z 0).val = 0; omega)
  | ⟨1, _⟩ => rfl
  | ⟨2, _⟩ => rfl

theorem blockQ_apply (t : Fin cfg0.N) (r : Fin 1024) (l : Fin 256) :
    blockQ (iblk m c 0 t) (iblk m c 1 t) (iblk m c 2 t) (ix3 0 r l) = resultQ m c (seqOf t) (rowOf t r) l := by
  refine (zq_apply _ _ _ r l).trans ?_
  refine proj_block m c t r _ _ _ fun j => ?_
  refine (wQ_apply _ j _).trans ((iblk_2 m c t j _).trans ((entry_w m c j _).trans ?_))
  exact columns_low _ j (1024 + l.val) (by omega)

theorem blockKV_apply (t : Fin cfg0.N) (r : Fin 1024) (l : Fin 512) :
    blockKV (iblk m c 0 t) (iblk m c 1 t) (iblk m c 2 t) (ix3 0 r l) = resultKV m c (seqOf t) (rowOf t r) l := by
  refine (zkv_apply _ _ _ r l).trans ?_
  unfold resultKV
  by_cases h : l.val < 396
  · rw [dif_pos h]
    refine proj_block m c t r _ _ _ fun j => ?_
    refine (wKV_apply _ j _).trans ((iblk_2 m c t j _).trans ((entry_w m c j _).trans ?_))
    exact columns_mid _ j l.val h
  · rw [dif_neg h]
    refine proj_zero _ _ _ _ fun j => ?_
    refine (wKV_apply _ j _).trans ((iblk_2 m c t j _).trans ((entry_w m c j _).trans ?_))
    exact columns_high _ j l.val (by omega) l.isLt

theorem gateRows_apply (t : Fin cfg0.N) (r : Fin 1024) (k : Fin 512) :
    gateRows (iblk m c 0 t) (iblk m c 1 t) (iblk m c 2 t) (ix2 r k) = zed m c (seqOf t) (rowOf t r) ⟨k.val, by omega⟩ := by
  refine (za_apply _ _ _ r k).trans ?_
  refine proj_block m c t r _ _ _ fun j => ?_
  refine (wA_apply _ j _).trans ((iblk_2 m c t j _).trans ((entry_w m c j _).trans ?_))
  exact columns_low _ j k.val (by omega)

theorem blockA_apply (t : Fin cfg0.N) (r : Fin 1024) (l : Fin 256) :
    blockA (iblk m c 0 t) (iblk m c 1 t) (iblk m c 2 t) (iblk m c 3 t) (iblk m c 4 t) (iblk m c 5 t) (ix3 0 r l)
      = resultA m c (seqOf t) (rowOf t r) l := by
  refine (canon_pieces _ _ _ _ (fun h t => m ((c : Thread nD τ).loc main_arg5) (ix3 1 h t))
    (fun i k => (iblk_5 m c t i k).trans (entry_sb m c i k)) _).trans ?_
  unfold gatedAt resultA
  have hz : ∀ (i : Fin 128) (k : Fin 512),
      gateRows (iblk m c 0 t) (iblk m c 1 t) (iblk m c 2 t) (ix2 ⟨r.val / 128 * 128 + i.val, by omega⟩ k)
        = zed m c (seqOf t) ⟨(rowOf t r).val / 128 * 128 + i.val, by have := (rowOf t r).isLt; omega⟩ ⟨k.val, by omega⟩ := by
    intro i k
    refine (gateRows_apply m c t _ k).trans (congrArg (fun s => zed m c (seqOf t) s _) (Fin.ext ?_))
    show t.val % 2 * 1024 + (r.val / 128 * 128 + i.val) = (t.val % 2 * 1024 + r.val) / 128 * 128 + i.val
    omega
  have hg : ∀ k : Fin 256, iblk m c 3 t (ix3 0 0 k) = m ((c : Thread nD τ).loc main_arg3) (ix2 1 k) := fun k =>
    (iblk_3 m c t k).trans (entry_sg m c k)
  have hw : ∀ (h : Fin 4) (i j : Fin 128), iblk m c 4 t (ix3 0 i ⟨h.val * 128 + j.val, by omega⟩)
      = m ((c : Thread nD τ).loc main_arg4) (ix4 1 h i j) := fun h i j => (iblk_4 m c t i _).trans (entry_sw m c h i j)
  have hr : (⟨r.val % 128, by omega⟩ : Fin 128) = ⟨(rowOf t r).val % 128, by omega⟩ :=
    Fin.ext (by show r.val % 128 = (t.val % 2 * 1024 + r.val) % 128; omega)
  have f1 := funext fun i => funext fun k => hz i k
  have f2 := funext hg
  have f3 := funext fun h => funext fun i => funext fun j => hw h i j
  show gating (fun i k => gateRows (iblk m c 0 t) (iblk m c 1 t) (iblk m c 2 t) (ix2 ⟨r.val / 128 * 128 + i.val, by omega⟩ k))
    (fun k => iblk m c 3 t (ix3 0 0 k)) (fun h i j => iblk m c 4 t (ix3 0 i ⟨h.val * 128 + j.val, by omega⟩)) _
    (⟨r.val % 128, by omega⟩ : Fin 128) l = _
  rw [f1, f2, f3, hr]

/-! From blocks to arrays. -/

def arrayA : S16x2048x256.Idx → EReal := fun i => resultA m c (i 0) (i 1) (i 2)
def arrayQ : S16x2048x256.Idx → EReal := fun i => resultQ m c (i 0) (i 1) (i 2)
def arrayKV : S16x2048x512.Idx → EReal := fun i => resultKV m c (i 0) (i 1) (i 2)

theorem flushed_a_eq (t : Fin cfg0.N) :
    (dats m 0 c).flushed 14 t = ((cfg0.win 14).blk t).view.read (Elt Ideal) (arrayA m c) := by
  rw [flushed_a]
  have key : ∀ z : S1x1024x256.Idx, blockA (iblk m c 0 t) (iblk m c 1 t) (iblk m c 2 t) (iblk m c 3 t) (iblk m c 4 t)
      (iblk m c 5 t) z = arrayA m c (ix3 (seqOf t) (rowOf t (z 1)) (z 2)) := fun z =>
    (congrArg _ (eta3 z)).trans (blockA_apply m c t (z 1) (z 2))
  funext z
  refine (key z).trans (congrArg (arrayA m c) (funext fun a => Fin.ext ?_))
  have e := (index_tokens t).2.1
  have hz : (z 0).val < 1 := (z 0).isLt
  match a with
  | ⟨0, _⟩ => show t.val / 2 = win0_14.index t 0 * 1 + 1 * (z 0).val; rw [e]; simp
  | ⟨1, _⟩ => show t.val % 2 * 1024 + (z 1).val = win0_14.index t 1 * 1024 + 1 * (z 1).val; rw [e]; simp
  | ⟨2, _⟩ => show (z 2).val = win0_14.index t 2 * 256 + 1 * (z 2).val; rw [e]; simp

theorem flushed_q_eq (t : Fin cfg0.N) :
    (dats m 0 c).flushed 17 t = ((cfg0.win 17).blk t).view.read (Elt Ideal) (arrayQ m c) := by
  rw [flushed_q]
  have key : ∀ z : S1x1024x256.Idx, blockQ (iblk m c 0 t) (iblk m c 1 t) (iblk m c 2 t) z
      = arrayQ m c (ix3 (seqOf t) (rowOf t (z 1)) (z 2)) := fun z =>
    (congrArg _ (eta3 z)).trans (blockQ_apply m c t (z 1) (z 2))
  funext z
  refine (key z).trans (congrArg (arrayQ m c) (funext fun a => Fin.ext ?_))
  have e := (index_tokens t).2.2.1
  have hz : (z 0).val < 1 := (z 0).isLt
  match a with
  | ⟨0, _⟩ => show t.val / 2 = win0_17.index t 0 * 1 + 1 * (z 0).val; rw [e]; simp
  | ⟨1, _⟩ => show t.val % 2 * 1024 + (z 1).val = win0_17.index t 1 * 1024 + 1 * (z 1).val; rw [e]; simp
  | ⟨2, _⟩ => show (z 2).val = win0_17.index t 2 * 256 + 1 * (z 2).val; rw [e]; simp

theorem flushed_kv_eq (t : Fin cfg0.N) :
    (dats m 0 c).flushed 18 t = ((cfg0.win 18).blk t).view.read (Elt Ideal) (arrayKV m c) := by
  rw [flushed_kv]
  have key : ∀ z : S1x1024x512.Idx, blockKV (iblk m c 0 t) (iblk m c 1 t) (iblk m c 2 t) z
      = arrayKV m c (ix3 (seqOf t) (rowOf t (z 1)) (z 2)) := fun z =>
    (congrArg _ (eta3 z)).trans (blockKV_apply m c t (z 1) (z 2))
  funext z
  refine (key z).trans (congrArg (arrayKV m c) (funext fun a => Fin.ext ?_))
  have e := (index_tokens t).2.2.2
  have hz : (z 0).val < 1 := (z 0).isLt
  match a with
  | ⟨0, _⟩ => show t.val / 2 = win0_18.index t 0 * 1 + 1 * (z 0).val; rw [e]; simp
  | ⟨1, _⟩ => show t.val % 2 * 1024 + (z 1).val = win0_18.index t 1 * 1024 + 1 * (z 1).val; rw [e]; simp
  | ⟨2, _⟩ => show (z 2).val = win0_18.index t 2 * 512 + 1 * (z 2).val; rw [e]; simp

theorem final_a : (dats m 0 c).arrAt 14 cfg0.N = arrayA m c :=
  (dats m 0 c).arrAt_eq_of_cover 14 (arrayA m c) (fun t _ => flushed_a_eq m c t)
    (fun i => (Cert.FrontIdeal.Value.covered_iff14 i).2 (by
      have h0 : (i 0).val < 16 := (i 0).isLt
      have h1 : (i 1).val < 2048 := (i 1).isLt
      have h2 : (i 2).val < 256 := (i 2).isLt
      omega))

theorem final_q : (dats m 0 c).arrAt 17 cfg0.N = arrayQ m c :=
  (dats m 0 c).arrAt_eq_of_cover 17 (arrayQ m c) (fun t _ => flushed_q_eq m c t)
    (fun i => (Cert.FrontIdeal.Value.covered_iff17 i).2 (by
      have h0 : (i 0).val < 16 := (i 0).isLt
      have h1 : (i 1).val < 2048 := (i 1).isLt
      have h2 : (i 2).val < 256 := (i 2).isLt
      omega))

theorem final_kv : (dats m 0 c).arrAt 18 cfg0.N = arrayKV m c :=
  (dats m 0 c).arrAt_eq_of_cover 18 (arrayKV m c) (fun t _ => flushed_kv_eq m c t)
    (fun i => (Cert.FrontIdeal.Value.covered_iff18 i).2 (by
      have h0 : (i 0).val < 16 := (i 0).isLt
      have h1 : (i 1).val < 2048 := (i 1).isLt
      have h2 : (i 2).val < 512 := (i 2).isLt
      omega))

end Cert.Proof.Front

end
-- ==== Proof.FrontRef.lean ====
/-
  The reference's projections and spatial gating at an index: `proj` of the token's row, `gating` of its chunk.
-/
module

public import proofs.«01_k».proof.Proof.Gen.FrontReferenceIdeal.Run
public import proofs.«01_k».proof.Proof.FrontMath

@[expose] public section

set_option maxRecDepth 16384

noncomputable section

namespace Cert.Proof.FrontRef

open Idealize.ShloMosaic Idealize.ShloMosaic.TcCoe Idealize.ShloMosaic.StableHlo Cert.FrontReferenceIdeal
open Cert.FrontReferenceIdeal.Value Cert.FrontReferenceIdeal.Gen Cert.Proof.Front

variable (x : FVec Ideal S16x2048x1024 .f32) (g : FVec Ideal S4x1024 .f32) (w : FVec Ideal S4x1024x1932 .f32)
  (sg : FVec Ideal S4x256 .f32) (sw : FVec Ideal S4x4x128x128 .f32) (sb : FVec Ideal S4x4x128 .f32)
  (z : FVec Ideal S16x2048x1932 .f32)

/-- Every token's projected row. -/
def zed : FVec Ideal S16x2048x1932 .f32 :=
  Host.dotGeneral dot_S16x2048x1024_S1024x1932_S16x2048x1932_2_0_01_1_n_n none
    (mulf (mulf x (broadcastInDim S16x2048x1024 ![0, 1, 2] bcast_S16x2048x1_S16x2048x1024_0_1_2
      (Host.rsqrt (addf (Host.divf (broadcastInDim S16x2048x1 ![0, 1] bcast_S16x2048_S16x2048x1_0_1
        (Host.reduceAdd (mulf x x) (constant S_ .f32 0x00000000#32) reducesTo_S16x2048x1024_S16x2048_d2 h_S_))
        (broadcastInDim S16x2048x1 ![] bcast_S_S16x2048x1 (constant S_ .f32 0x44800000#32)))
        (broadcastInDim S16x2048x1 ![] bcast_S_S16x2048x1 (constant S_ .f32 0x358637BD#32))))))
      (broadcastInDim S16x2048x1024 ![0, 1, 2] bcast_S1x1x1024_S16x2048x1024_0_1_2
        (broadcastInDim S1x1x1024 ![2] bcast_S1024_S1x1x1024_2
          (shapeCast S1024 (extractStridedSlice S1x1024 ![1, 0] g slices_S4x1024_S1x1024_1_0) shapeCasts_S1x1024_S1024))))
    (shapeCast S1024x1932 (extractStridedSlice S1x1024x1932 ![1, 0, 0] w slices_S4x1024x1932_S1x1024x1932_1_0_0)
      shapeCasts_S1x1024x1932_S1024x1932)

theorem zed_apply (b : Fin 16) (s : Fin 2048) (k : Fin 1932) :
    zed x g w (ix3 b s k) = proj (fun k => x (ix3 b s k)) (fun k => g (ix2 1 k)) (fun j k => w (ix3 1 j k)) k := by
  pointwise [zed, dot_S16x2048x1024_S1024x1932_S16x2048x1932_2_0_01_1_n_n]
  rfl

/-- The gating's second halves, less their means, -/
def less : FVec Ideal S16x2048x256 .f32 :=
  subf (extractStridedSlice S16x2048x256 ![0, 0, 256] z slices_S16x2048x1932_S16x2048x256_0_0_256)
    (broadcastInDim S16x2048x256 ![0, 1, 2] bcast_S16x2048x1_S16x2048x256_0_1_2
      (Host.divf (broadcastInDim S16x2048x1 ![0, 1] bcast_S16x2048_S16x2048x1_0_1
        (Host.reduceAdd (extractStridedSlice S16x2048x256 ![0, 0, 256] z slices_S16x2048x1932_S16x2048x256_0_0_256)
          (constant S_ .f32 0x00000000#32) reducesTo_S16x2048x256_S16x2048_d2 h_S_))
        (broadcastInDim S16x2048x1 ![] bcast_S_S16x2048x1 (constant S_ .f32 0x43800000#32))))

theorem less_apply (b : Fin 16) (s : Fin 2048) (l : Fin 256) :
    less z (ix3 b s l) = center (fun k => z (ix3 b s ⟨256 + k.val, by omega⟩)) l := by
  pointwise [less]
  rfl

/-- and normalised. -/
def normed : FVec Ideal S16x2048x256 .f32 :=
  addf (mulf (mulf (less z) (broadcastInDim S16x2048x256 ![0, 1, 2] bcast_S16x2048x1_S16x2048x256_0_1_2
    (Host.rsqrt (addf (Host.divf (broadcastInDim S16x2048x1 ![0, 1] bcast_S16x2048_S16x2048x1_0_1
      (Host.reduceAdd (mulf (less z) (less z)) (constant S_ .f32 0x00000000#32) reducesTo_S16x2048x256_S16x2048_d2 h_S_))
      (broadcastInDim S16x2048x1 ![] bcast_S_S16x2048x1 (constant S_ .f32 0x43800000#32)))
      (broadcastInDim S16x2048x1 ![] bcast_S_S16x2048x1 (constant S_ .f32 0x3727C5AC#32))))))
    (broadcastInDim S16x2048x256 ![0, 1, 2] bcast_S1x1x256_S16x2048x256_0_1_2
      (broadcastInDim S1x1x256 ![2] bcast_S256_S1x1x256_2
        (shapeCast S256 (extractStridedSlice S1x256 ![1, 0] sg slices_S4x256_S1x256_1_0) shapeCasts_S1x256_S256))))
    (broadcastInDim S16x2048x256 ![] bcast_S_S16x2048x256 (constant S_ .f32 0x00000000#32))

theorem normed_apply (b : Fin 16) (s : Fin 2048) (l : Fin 256) :
    normed sg z (ix3 b s l) = lnorm (fun k => z (ix3 b s ⟨256 + k.val, by omega⟩)) (fun k => sg (ix2 1 k)) l := by
  pointwise [normed, less_apply]
  rfl

/-- The heads' mixing matrices, kept on and below the diagonal. -/
def lower : FVec Ideal S4x128x128 .f32 :=
  select (broadcastInDim S4x128x128 ![1, 2] bcast_S128x128_S4x128x128_1_2
      (cmpi .sge (addi (iotaInDim S128x128 32 0) (broadcastInDim S128x128 ![] bcast_S_S128x128 (constantI S_ 32 0#32)))
        (iotaInDim S128x128 32 1)))
    (shapeCast S4x128x128 (extractStridedSlice S1x4x128x128 ![1, 0, 0, 0] sw slices_S4x4x128x128_S1x4x128x128_1_0_0_0)
      shapeCasts_S1x4x128x128_S4x128x128)
    (broadcastInDim S4x128x128 ![] bcast_S_S4x128x128 (constant S_ .f32 0x00000000#32))

theorem lower_apply (h : Fin 4) (t j : Fin 128) :
    lower sw (ix3 h t j) = if j.val ≤ t.val then sw (ix4 1 h t j) else 0 := by
  have low : ∀ a b : Fin 128, IntOp.cmpi .sge (IntOp.addi (BitVec.ofNat 32 a.val) 0#32) (BitVec.ofNat 32 b.val)
      = if b.val ≤ a.val then 1#1 else 0#1 := by decide +kernel
  pointwise [lower, low]
  split <;> rfl

/-- The mixed rows plus the bias, chunk by chunk and head by head. -/
def mixedRows : FVec Ideal S16x2048x256 .f32 :=
  shapeCast S16x2048x256 (addf (transpose S16x16x128x4x64 [1, 2, 4, 0, 3]
    (Host.dotGeneral dot_S16x16x128x4x64_S4x128x128_S4x16x16x64x128_2_2_014_1_3_0 none
      (shapeCast S16x16x128x4x64 (normed sg z) shapeCasts_S16x2048x256_S16x16x128x4x64) (lower sw))
      transposes_S4x16x16x64x128_S16x16x128x4x64_1_2_4_0_3)
    (broadcastInDim S16x16x128x4x64 ![0, 1, 2, 3, 4] bcast_S1x1x128x4x1_S16x16x128x4x64_0_1_2_3_4
      (broadcastInDim S1x1x128x4x1 ![2, 3] bcast_S128x4_S1x1x128x4x1_2_3 (transpose S128x4 [1, 0]
        (shapeCast S4x128 (extractStridedSlice S1x4x128 ![1, 0, 0] sb slices_S4x4x128_S1x4x128_1_0_0) shapeCasts_S1x4x128_S4x128)
        transposes_S4x128_S128x4_1_0)))) shapeCasts_S16x16x128x4x64_S16x2048x256

theorem mixedRows_apply (b : Fin 16) (s : Fin 2048) (l : Fin 256) :
    mixedRows sg sw sb z (ix3 b s l) = (∑ j : Fin 128, (if j.val ≤ s.val % 128 then sw (ix4 1 (head l) ⟨s.val % 128, by omega⟩ j) else 0)
      * lnorm (fun k => z (ix3 b ⟨s.val / 128 * 128 + j.val, by omega⟩ ⟨256 + k.val, by omega⟩)) (fun k => sg (ix2 1 k)) l)
      + sb (ix3 1 (head l) ⟨s.val % 128, by omega⟩) := by
  pointwise [mixedRows, dot_S16x16x128x4x64_S4x128x128_S4x16x16x64x128_2_2_014_1_3_0]
  refine congrArg₂ (· + ·) (Finset.sum_congr rfl fun j _ => ?_) rfl
  rw [normed_apply, lower_apply, mul_comm]

/-- The reference's gated rows. -/
def gated : FVec Ideal S16x2048x256 .bf16 :=
  truncf .bf16 (mulf (extractStridedSlice S16x2048x256 ![0, 0, 0] z slices_S16x2048x1932_S16x2048x256_0_0_0)
    (mixedRows sg sw sb z)) bitsLt_bf16_f32

theorem gated_apply (b : Fin 16) (s : Fin 2048) (l : Fin 256) :
    gated sg sw sb z (ix3 b s l) = gating (fun t k => z (ix3 b ⟨s.val / 128 * 128 + t.val, by omega⟩ ⟨k.val, by omega⟩))
      (fun k => sg (ix2 1 k)) (fun h t j => sw (ix4 1 h t j)) (fun h t => sb (ix3 1 h t)) ⟨s.val % 128, by omega⟩ l := by
  have e : (⟨s.val / 128 * 128 + s.val % 128, by omega⟩ : Fin 2048) = s := Fin.ext (by simp only; omega)
  pointwise [gated, gating, mixedRows_apply, e]

/-- The padded key and value columns. -/
def padded : FVec Ideal S16x2048x512 .f32 :=
  pad S16x2048x512 ![0, 0, 0] ![0, 0, 116] ![0, 0, 0] (concatenate S16x2048x396 2
    [⟨S16x2048x384, (extractStridedSlice S16x2048x384 ![0, 0, 1280] z slices_S16x2048x1932_S16x2048x384_0_0_1280)⟩,
     ⟨S16x2048x12, (extractStridedSlice S16x2048x12 ![0, 0, 1664] z slices_S16x2048x1932_S16x2048x12_0_0_1664)⟩]
    concatenates_S16x2048x384_S16x2048x12_S16x2048x396_d2) (sitofp .f32 (constantI S_ 32 0#32))
    pads_S16x2048x396_S16x2048x512_000_000_01160 h_S_

theorem padded_apply (b : Fin 16) (s : Fin 2048) (k : Fin 512) :
    padded z (ix3 b s k) = if h : k.val < 396 then z (ix3 b s ⟨1280 + k.val, by omega⟩) else 0 := by
  have zero : FloatOps.sitofp (F := Ideal) .f32 0#32 = (0 : EReal) := by
    show (((0#32 : BitVec 32).toInt : ℝ) : EReal) = 0
    simp
  pointwise [padded, zero]
  split
  · split
    · rfl
    · exact congrArg (fun k => z (ix3 b s k)) (Fin.ext (by simp only; omega))
  · rfl

/-- The reference's first result is the gated rows of its projections. -/
theorem res_eq (m : (ℓ : Loc nD τ sig) → Buf (Elt Ideal) ℓ) (c : Dev nD) :
    res_main_v67 m c = gated (m ((c.tc : Thread nD τ).loc main_arg3)) (m ((c.tc : Thread nD τ).loc main_arg4))
      (m ((c.tc : Thread nD τ).loc main_arg5)) (zed (m ((c.tc : Thread nD τ).loc main_arg0))
        (m ((c.tc : Thread nD τ).loc main_arg1)) (m ((c.tc : Thread nD τ).loc main_arg2))) := rfl

end Cert.Proof.FrontRef

end
-- ==== Proof.FrontClaim.lean ====
/-
  The claims about the layer's front half: the two programs end with the same gated rows, queries, and keys, values and gates.
-/
module

public import proofs.«01_k».proof.Defs
public import proofs.«01_k».proof.Proof.Gen.Front.Frame
public import proofs.«01_k».proof.Proof.FrontFinal
public import proofs.«01_k».proof.Proof.FrontRef
public import Idealize.ShloMosaic.Lib.Quiescent

@[expose] public section

set_option maxRecDepth 16384

noncomputable section

namespace Cert.Proof.Front

open Idealize.ShloMosaic Idealize.ShloMosaic.TcCoe Idealize.SL.Sem

theorem frame_k : Cert.quiescent_Front := fun m ρ _ => Cert.Front.Gen.frame m ρ
theorem frame_ki : Cert.quiescent_FrontIdeal := fun m ρ _ => Cert.FrontIdeal.Gen.frame m ρ
/-- The reference is host code: its run leaves the arguments, and it has no semaphore. -/
theorem frame_r : Cert.quiescent_FrontReferenceIdeal := fun m ρ _ =>
  (θ_run Cert.FrontReferenceIdeal.defs _ _).mono (fun r h => ⟨fun c => (h c).2.2.2,
      Idealize.ShloMosaic.sem_eq_zero_of_no_sems (by decide) r.2⟩)
    (Cert.FrontReferenceIdeal.Value.run (F := Ideal) m ρ)

/-- An index of a rank-three array is its three coordinates. -/
theorem eta {n p q : ℕ} (z : (Shape.mk 3 ![n, p, q]).Idx) : z = ix3 (z 0) (z 1) (z 2) := by
  funext a
  match a with
  | ⟨0, _⟩ => rfl
  | ⟨1, _⟩ => rfl
  | ⟨2, _⟩ => rfl

/-- From memories that agree on the arguments, the kernel's three arrays are the reference's. -/
theorem algebraic : Cert.algebraic_FrontIdeal_FrontReferenceIdeal := by
  intro m g m' g' _ hargs
  refine ⟨fun c => arrayA m c, fun c => arrayQ m c, fun c => arrayKV m c, ?_, ?_⟩
  · refine (θ_run Cert.FrontIdeal.defs _ _).mono (fun r h c => ?_) (Cert.FrontIdeal.Value.run_blocks (F := Ideal) m g)
    obtain ⟨ha, -, -, hq, hkv, hrest⟩ := h c
    exact ⟨ha.trans (final_a m c), hq.trans (final_q m c), hkv.trans (final_kv m c), hrest⟩
  · refine (θ_run Cert.FrontReferenceIdeal.defs _ _).mono (fun r h c => ?_) (Cert.FrontReferenceIdeal.Value.run (F := Ideal) m' g')
    obtain ⟨ha, hq, hkv, hrest⟩ := h c
    obtain ⟨e0, e1, e2, e3, e4, e5, -⟩ := hargs c
    have hz : ∀ b s k, FrontRef.zed (m' ((c.tc : Thread Cert.FrontReferenceIdeal.nD Cert.FrontReferenceIdeal.τ).loc Cert.FrontReferenceIdeal.main_arg0))
        (m' ((c.tc : Thread Cert.FrontReferenceIdeal.nD Cert.FrontReferenceIdeal.τ).loc Cert.FrontReferenceIdeal.main_arg1))
        (m' ((c.tc : Thread Cert.FrontReferenceIdeal.nD Cert.FrontReferenceIdeal.τ).loc Cert.FrontReferenceIdeal.main_arg2)) (ix3 b s k)
        = zed m c b s k := by
      intro b s k
      refine (FrontRef.zed_apply _ _ _ b s k).trans ?_
      rw [e0, e1, e2]
      rfl
    refine ⟨ha.trans ?_, hq.trans ?_, hkv.trans ?_, hrest⟩
    · rw [FrontRef.res_eq]
      funext z
      refine (congrArg _ (eta z)).trans ((FrontRef.gated_apply _ _ _ _ (z 0) (z 1) (z 2)).trans ?_)
      rw [e3, e4, e5]
      exact congrArg (fun v => gating v _ _ _ _ _) (funext fun t => funext fun k => hz _ _ _)
    · funext z
      refine Eq.trans ?_ (hz (z 0) (z 1) ⟨1024 + (z 2).val, by have : (z 2).val < 256 := (z 2).isLt; omega⟩)
      refine congrArg (FrontRef.zed _ _ _) (funext fun a => Fin.ext ?_)
      match a with
      | ⟨0, _⟩ => show 0 + (z 0).val = (z 0).val; omega
      | ⟨1, _⟩ => show 0 + (z 1).val = (z 1).val; omega
      | ⟨2, _⟩ => rfl
    · funext z
      refine (congrArg _ (eta z)).trans ((FrontRef.padded_apply (FrontRef.zed (m' ((c.tc : Thread Cert.FrontReferenceIdeal.nD Cert.FrontReferenceIdeal.τ).loc Cert.FrontReferenceIdeal.main_arg0))
        (m' ((c.tc : Thread Cert.FrontReferenceIdeal.nD Cert.FrontReferenceIdeal.τ).loc Cert.FrontReferenceIdeal.main_arg1))
        (m' ((c.tc : Thread Cert.FrontReferenceIdeal.nD Cert.FrontReferenceIdeal.τ).loc Cert.FrontReferenceIdeal.main_arg2)))
        (z 0) (z 1) (z 2)).trans ?_)
      show _ = resultKV m c (z 0) (z 1) (z 2)
      unfold resultKV
      by_cases h : (z 2).val < 396
      · rw [dif_pos h, dif_pos h]
        exact hz (z 0) (z 1) ⟨1280 + (z 2).val, by omega⟩
      · rw [dif_neg h, dif_neg h]

end Cert.Proof.Front

end
-- ==== Proof.CompressMath.lean ====
/-
  The compression of keys and values, as functions on the extended reals: one compressed row, and the sums the kernel takes
  over keys and values side by side.
-/
module

public import proofs.«01_k».proof.Proof.BackMath
public import Idealize.ShloMosaic.Lib.Pointwise

@[expose] public section

set_option maxRecDepth 16384

noncomputable section

namespace Cert.Proof.Compress

open Idealize.ShloMosaic Cert.Proof.Back

/-- Hidden unit `j` of the block of 32 rows that begins at row `16 c`. -/
def hid (x : Fin 2048 → Fin 64 → EReal) (pe : Fin 32 → Fin 64 → EReal) (w : Fin 2048 → Fin 64 → EReal) (c : Fin 127)
    (j : Fin 64) : EReal :=
  ∑ q : Fin 32, ∑ k : Fin 64, (x ⟨16 * c.val + q.val, by omega⟩ k + pe q k) * w ⟨64 * q.val + k.val, by omega⟩ j

/-- The compressed row of that block. -/
def cmp (x : Fin 2048 → Fin 64 → EReal) (pe : Fin 32 → Fin 64 → EReal) (w : Fin 2048 → Fin 64 → EReal)
    (w2 : Fin 64 → Fin 64 → EReal) (c : Fin 127) (l : Fin 64) : EReal :=
  ∑ j : Fin 64, silu (hid x pe w c j) * w2 j l

/-- The hidden unit by one sum over the 2048 entries of the flattened block. -/
theorem hid_flat (x : Fin 2048 → Fin 64 → EReal) (pe : Fin 32 → Fin 64 → EReal) (w : Fin 2048 → Fin 64 → EReal)
    (c : Fin 127) (j : Fin 64) :
    ∑ u : Fin 2048, (x ⟨16 * c.val + u.val / 64, by omega⟩ ⟨u.val % 64, by omega⟩
        + pe ⟨u.val / 64, by omega⟩ ⟨u.val % 64, by omega⟩) * w u j = hid x pe w c j := by
  unfold hid
  rw [← Fintype.sum_prod_type' (f := fun (q : Fin 32) (k : Fin 64) =>
    (x ⟨16 * c.val + q.val, by omega⟩ k + pe q k) * w ⟨64 * q.val + k.val, by omega⟩ j)]
  refine (Fintype.sum_equiv (finProdFinEquiv (m := 32) (n := 64)) _ _ ?_).symm
  rintro ⟨q, k⟩
  have hv : (finProdFinEquiv (q, k)).val = k.val + 64 * q.val := rfl
  have hq : (finProdFinEquiv (q, k)).val / 64 = q.val := by omega
  have hk : (finProdFinEquiv (q, k)).val % 64 = k.val := by omega
  have e1 : (⟨(finProdFinEquiv (q, k)).val / 64, by omega⟩ : Fin 32) = q := Fin.ext hq
  have e2 : (⟨(finProdFinEquiv (q, k)).val % 64, by omega⟩ : Fin 64) = k := Fin.ext hk
  have e3 : (⟨16 * c.val + (finProdFinEquiv (q, k)).val / 64, by omega⟩ : Fin 2048) = ⟨16 * c.val + q.val, by omega⟩ :=
    Fin.ext (by simp only; omega)
  have e4 : (⟨64 * q.val + k.val, by omega⟩ : Fin 2048) = finProdFinEquiv (q, k) := Fin.ext (by rw [hv]; simp only; omega)
  show (x _ k + pe q k) * w ⟨64 * q.val + k.val, _⟩ j = (x ⟨16 * c.val + (finProdFinEquiv (q, k)).val / 64, _⟩ ⟨(finProdFinEquiv (q, k)).val % 64, _⟩ + pe ⟨(finProdFinEquiv (q, k)).val / 64, _⟩ ⟨(finProdFinEquiv (q, k)).val % 64, _⟩) * w (finProdFinEquiv (q, k)) j
  rw [e1, e2, e3, e4]

/-- Two rows of 64 side by side. -/
def join (a b : Fin 64 → EReal) (k : Fin 128) : EReal :=
  if h : k.val < 64 then a ⟨k.val, h⟩ else b ⟨k.val - 64, by omega⟩

/-- Two matrices down the diagonal, zeros elsewhere. -/
def diag (A B : Fin 64 → Fin 64 → EReal) (k j : Fin 128) : EReal :=
  if hk : k.val < 64 then (if hj : j.val < 64 then A ⟨k.val, hk⟩ ⟨j.val, hj⟩ else 0)
  else if hj : j.val < 64 then 0 else B ⟨k.val - 64, by omega⟩ ⟨j.val - 64, by omega⟩

theorem sum_halves (f : Fin 128 → EReal) :
    ∑ k, f k = ∑ k : Fin 64, f ⟨k.val, by omega⟩ + ∑ k : Fin 64, f ⟨64 + k.val, by omega⟩ :=
  Fin.sum_univ_add (a := 64) (b := 64) f

theorem join_lo (a b : Fin 64 → EReal) (k : Fin 64) : join a b ⟨k.val, by omega⟩ = a k := dif_pos k.isLt
theorem join_hi (a b : Fin 64 → EReal) (k : Fin 64) : join a b ⟨64 + k.val, by omega⟩ = b k := by
  unfold join
  rw [dif_neg (by simp only; omega)]
  exact congrArg b (Fin.ext (by simp only; omega))

/-- A row against the diagonal matrices: each half of the columns sees its half of the row. -/
theorem sum_diag (f : Fin 128 → EReal) (A B : Fin 64 → Fin 64 → EReal) (j : Fin 128) :
    ∑ k, f k * diag A B k j = join (fun j => ∑ k : Fin 64, f ⟨k.val, by omega⟩ * A k j)
      (fun j => ∑ k : Fin 64, f ⟨64 + k.val, by omega⟩ * B k j) j := by
  rw [sum_halves]
  unfold join diag
  by_cases hj : j.val < 64
  · rw [dif_pos hj]
    have e1 : ∀ k : Fin 64, k.val < 64 := fun k => k.isLt
    have e2 : ∀ k : Fin 64, ¬ 64 + k.val < 64 := fun k => by omega
    simp only [e1, e2, hj, dite_true, dite_false, mul_zero, Finset.sum_const_zero, add_zero]
  · rw [dif_neg hj]
    have e1 : ∀ k : Fin 64, k.val < 64 := fun k => k.isLt
    have e2 : ∀ k : Fin 64, ¬ 64 + k.val < 64 := fun k => by omega
    have e3 : ∀ k : Fin 64, (⟨64 + k.val - 64, by omega⟩ : Fin 64) = k := fun k => Fin.ext (by simp only; omega)
    simp only [e1, e2, hj, dite_true, dite_false, mul_zero, Finset.sum_const_zero, zero_add, e3]

/-- The kernel's hidden unit: the first sixteen rows of the block, and the last sixteen as the first of the next. -/
def hidBoth (x : Fin 2048 → Fin 128 → EReal) (pe : Fin 32 → Fin 128 → EReal) (w : Fin 32 → Fin 128 → Fin 128 → EReal)
    (c : Fin 127) (j : Fin 128) : EReal :=
  (∑ r : Fin 16, ∑ k : Fin 128, (x ⟨16 * c.val + r.val, by omega⟩ k + pe ⟨r.val, by omega⟩ k) * w ⟨r.val, by omega⟩ k j)
    + ∑ r : Fin 16, ∑ k : Fin 128, (x ⟨16 * (c.val + 1) + r.val, by omega⟩ k + pe ⟨16 + r.val, by omega⟩ k)
        * w ⟨16 + r.val, by omega⟩ k j

/-- On keys and values side by side that is the keys' hidden unit in the first 64 columns, the values' in the last. -/
theorem hidBoth_eq (x y : Fin 2048 → Fin 64 → EReal) (p q : Fin 32 → Fin 64 → EReal) (v w : Fin 2048 → Fin 64 → EReal)
    (c : Fin 127) (j : Fin 128) :
    hidBoth (fun s => join (x s) (y s)) (fun r => join (p r) (q r))
        (fun r => diag (fun k j => v ⟨64 * r.val + k.val, by omega⟩ j) (fun k j => w ⟨64 * r.val + k.val, by omega⟩ j)) c j
      = join (hid x p v c) (hid y q w c) j := by
  unfold hidBoth
  simp only [sum_diag, join_lo, join_hi]
  unfold join
  by_cases hj : j.val < 64
  · simp only [dif_pos hj]
    unfold hid
    refine Eq.trans ?_ (Fin.sum_univ_add (a := 16) (b := 16) _).symm
    refine congrArg₂ (· + ·) rfl (Finset.sum_congr rfl fun r _ => Finset.sum_congr rfl fun k _ => ?_)
    have e : (⟨16 * (c.val + 1) + r.val, by omega⟩ : Fin 2048) = ⟨16 * c.val + (16 + r.val), by omega⟩ :=
      Fin.ext (by simp only; omega)
    rw [e]
    rfl
  · simp only [dif_neg hj]
    unfold hid
    refine Eq.trans ?_ (Fin.sum_univ_add (a := 16) (b := 16) _).symm
    refine congrArg₂ (· + ·) rfl (Finset.sum_congr rfl fun r _ => Finset.sum_congr rfl fun k _ => ?_)
    have e : (⟨16 * (c.val + 1) + r.val, by omega⟩ : Fin 2048) = ⟨16 * c.val + (16 + r.val), by omega⟩ :=
      Fin.ext (by simp only; omega)
    rw [e]
    rfl

/-- The compressed rows of keys and values, side by side. -/
theorem cmpBoth_eq (f g : Fin 64 → EReal) (A B : Fin 64 → Fin 64 → EReal) (l : Fin 128) :
    ∑ j, silu (join f g j) * diag A B j l
      = join (fun l => ∑ j : Fin 64, silu (f j) * A j l) (fun l => ∑ j : Fin 64, silu (g j) * B j l) l := by
  rw [sum_diag]
  simp only [join_lo, join_hi]

end Cert.Proof.Compress

end
-- ==== Proof.CompressBlock.lean ====
/-
  What one block of the compression holds: for each of its four sequences, 127 compressed rows and a row of zeros.
-/
module

public import proofs.«01_k».proof.Proof.Gen.CompressIdeal.Value
public import proofs.«01_k».proof.Proof.CompressMath
public import Idealize.ShloMosaic.Lib.Claim
public import Idealize.ShloMosaic.Lib.Pipeline.ValueKit
public import Idealize.ShloMosaic.Lib.WholeRead

@[expose] public section

set_option maxRecDepth 16384

noncomputable section

namespace Cert.Proof.Compress

open Idealize.ShloMosaic Idealize.ShloMosaic.TcCoe Idealize.SL.Sem Cert.CompressIdeal Cert.CompressIdeal.Gen
open Idealize.ShloMosaic.Pipeline (Dat)
open Cert.Proof.Back

/-- An array read through a box of strided coordinates. -/
def strided (x : Vec Ideal S4x2048x128 .f32) (r : LoadRect S4x2048x128) : r.shape.Idx → Elt Ideal .f32 := fun z => x (r.idx z)

theorem readAt_eq (a : Memref sig .tc .vmem S4x2048x128 .f32) (h : a.IsWhole) (x : Vec Ideal S4x2048x128 .f32)
    (r : LoadRect S4x2048x128) : View.readAt (Elt Ideal) a.view r (h.unread x) = strided x r :=
  funext fun z => h.readAt_unread x r z

variable (x : Vec Ideal S4x2048x128 .f32) (pe : Vec Ideal S1x32x128 .f32) (w : Vec Ideal S1x32x128x128 .bf16)
  (w2 : Vec Ideal S1x128x128 .bf16)

/-- Every sixteenth row of sequence `b`, from row `r`. -/
def seqLoad (b r : ℕ) : Vec Ideal S1x128x128 .f32 := fun z =>
  if h : b < 4 ∧ r < 16 then x (ix3 ⟨b, h.1⟩ ⟨16 * (z 1).val + r, by have h1 : (z 1).val < 128 := (z 1).isLt; omega⟩ (z 2)) else 0

/-- Row `q` of the positions, matrix `q` of the weights, and the second weights. -/
def peLoad (q : ℕ) : Vec Ideal S1x1x128 .f32 := fun z => if h : q < 32 then pe (ix3 0 ⟨q, h⟩ (z 2)) else 0
def wLoad (q : ℕ) : Vec Ideal S1x1x128x128 .bf16 := fun z => if h : q < 32 then w (ix4 0 ⟨q, h⟩ (z 2) (z 3)) else 0
def w2Load : Vec Ideal S1x128x128 .bf16 := fun z => w2 (ix3 0 (z 1) (z 2))

theorem seqLoad_eq (b r : ℕ) (h) : (strided x ⟨![b, r, 0], ![1, 128, 128], ![1, 16, 1], h⟩ : Vec Ideal S1x128x128 .f32) = seqLoad x b r := by
  funext z
  have h0 : (z 0).val < 1 := (z 0).isLt
  have h1 : (z 1).val < 128 := (z 1).isLt
  have hb : b < 4 := by
    have e := h 0
    rcases e with e | e
    · exact absurd (show (1 : ℕ) = 0 from e) (by omega)
    · have e : b + 1 * (1 - 1) < 4 := e
      omega
  have hr : r < 16 := by
    have e := h 1
    rcases e with e | e
    · exact absurd (show (128 : ℕ) = 0 from e) (by omega)
    · have e : r + 16 * (128 - 1) < 2048 := e
      omega
  refine Eq.trans ?_ (dif_pos ⟨hb, hr⟩).symm
  refine congrArg x (funext fun a => Fin.ext ?_)
  match a with
  | ⟨0, _⟩ => show b + 1 * (z 0).val = b; omega
  | ⟨1, _⟩ => show r + 16 * (z 1).val = 16 * (z 1).val + r; omega
  | ⟨2, _⟩ => show 0 + 1 * (z 2).val = (z 2).val; omega

theorem peLoad_eq (q : ℕ) (h) : (View.ld pe (Rect.unit (s := S1x32x128) ![0, q, 0] ![1, 1, 128] h) : Vec Ideal S1x1x128 .f32) = peLoad pe q := by
  funext z
  have h0 : (z 0).val < 1 := (z 0).isLt
  have h1 : (z 1).val < 1 := (z 1).isLt
  have hq : q < 32 := by have e : q + 1 ≤ 32 := h 1; omega
  refine Eq.trans ?_ (dif_pos hq).symm
  refine congrArg pe (funext fun a => Fin.ext ?_)
  match a with
  | ⟨0, _⟩ => show 0 + 1 * (z 0).val = 0; omega
  | ⟨1, _⟩ => show q + 1 * (z 1).val = q; omega
  | ⟨2, _⟩ => show 0 + 1 * (z 2).val = (z 2).val; omega

theorem wLoad_eq (q : ℕ) (h) : (View.ld w (Rect.unit (s := S1x32x128x128) ![0, q, 0, 0] ![1, 1, 128, 128] h) : Vec Ideal S1x1x128x128 .bf16) = wLoad w q := by
  funext z
  have h0 : (z 0).val < 1 := (z 0).isLt
  have h1 : (z 1).val < 1 := (z 1).isLt
  have hq : q < 32 := by have e : q + 1 ≤ 32 := h 1; omega
  refine Eq.trans ?_ (dif_pos hq).symm
  refine congrArg w (funext fun a => Fin.ext ?_)
  match a with
  | ⟨0, _⟩ => show 0 + 1 * (z 0).val = 0; omega
  | ⟨1, _⟩ => show q + 1 * (z 1).val = q; omega
  | ⟨2, _⟩ => show 0 + 1 * (z 2).val = (z 2).val; omega
  | ⟨3, _⟩ => show 0 + 1 * (z 3).val = (z 3).val; omega

theorem w2Load_eq : w2 = w2Load w2 := by
  funext z
  have h0 : (z 0).val < 1 := (z 0).isLt
  refine congrArg w2 (funext fun a => Fin.ext ?_)
  match a with
  | ⟨0, _⟩ => show (z 0).val = 0; omega
  | ⟨1, _⟩ => rfl
  | ⟨2, _⟩ => rfl

/-! The operations of one step. -/

/-- A sequence's rows as a matrix; the four sequences' one above the other. -/
def mat (a : Vec Ideal S1x128x128 .f32) : FVec Ideal S128x128 .f32 := shapeCast S128x128 a shapeCasts_S1x128x128_S128x128
def stack (a b c d : FVec Ideal S128x128 .f32) : FVec Ideal S512x128 .f32 :=
  concatenate S512x128 0 [⟨S128x128, a⟩, ⟨S128x128, b⟩, ⟨S128x128, c⟩, ⟨S128x128, d⟩]
    concatenates_S128x128_S128x128_S128x128_S128x128_S512x128_d0
/-- The rows plus a position. -/
def plus (r : FVec Ideal S512x128 .f32) (p : Vec Ideal S1x1x128 .f32) : FVec Ideal S512x128 .f32 :=
  addf r (broadcastTo S512x128 (shapeCast S1x128 p shapeCasts_S1x1x128_S1x128) broadcasts_S1x128_S512x128)
def round (r : FVec Ideal S512x128 .f32) : FVec Ideal S512x128 .bf16 := truncf .bf16 r bitsLt_bf16_f32
def wMat (v : Vec Ideal S1x1x128x128 .bf16) : FVec Ideal S128x128 .bf16 := shapeCast S128x128 v shapeCasts_S1x1x128x128_S128x128
def mul (l : FVec Ideal S512x128 .bf16) (r : FVec Ideal S128x128 .bf16) : FVec Ideal S512x128 .f32 :=
  matmul dot_S512x128_S128x128_S512x128_1_0_0_1_n_n none l r (constant S512x128 .f32 0x00000000#32)
def nil : FVec Ideal S512x128 .f32 := broadcast S512x128 (Scalar.ofBits .f32 0x00000000#32)
/-- The hidden units from both sums, and the compressed rows. -/
def last (u v : FVec Ideal S512x128 .f32) (r : Vec Ideal S1x128x128 .bf16) : FVec Ideal S512x128 .f32 :=
  mul (round (mulf (addf u (dynamicRotate 0 511#32 none v rotates_S512x128_d0))
    (logistic (addf u (dynamicRotate 0 511#32 none v rotates_S512x128_d0)))))
    (shapeCast S128x128 r shapeCasts_S1x128x128_S128x128)

/-- One row's share of the hidden units, position and weights at `q`. -/
def term (r q : ℕ) : FVec Ideal S512x128 .f32 :=
  mul (round (plus (stack (mat (seqLoad x 0 r)) (mat (seqLoad x 1 r)) (mat (seqLoad x 2 r)) (mat (seqLoad x 3 r))) (peLoad pe q)))
    (wMat (wLoad w q))

/-- The sixteen rows' shares, added up in turn. -/
def part (f : ℕ → ℕ) : FVec Ideal S512x128 .f32 :=
  List.foldl (fun a r => addf a (term x pe w r (f r))) nil [0, 1, 2, 3, 4, 5, 6, 7, 8, 9, 10, 11, 12, 13, 14, 15]

/-- A block's first and last sixteen rows. -/
def lo (r : ℕ) : ℕ := r
def hi (r : ℕ) : ℕ := 16 + r

def outRows : FVec Ideal S512x128 .f32 := last (part x pe w lo) (part x pe w hi) (w2Load w2)

/-- The stored block. -/
def block : Vec Ideal S4x128x128 .f32 :=
  k0_pay1 (outRows x pe w w2) (iota .tc S512x128 32 [0] iota_S512x128_d0_w32) 128#32

/-! The body's steps are these operations. -/

section
variable (u v y : FVec Ideal S512x128 .f32) (l : FVec Ideal S512x128 .bf16) (a b c d : Vec Ideal S1x128x128 .f32)
  (A B C D : FVec Ideal S128x128 .f32) (p p' : Vec Ideal S1x1x128 .f32) (r r' : Vec Ideal S1x1x128x128 .bf16)
  (R : FVec Ideal S128x128 .bf16) (r2 : Vec Ideal S1x128x128 .bf16)

theorem step3 : k0_pay3 a b c d p r = addf nil (mul (round (plus (stack (mat a) (mat b) (mat c) (mat d)) p)) (wMat r)) := rfl
theorem step4 : k0_pay4 a b c d p r = addf nil (mul (round (plus (stack (mat a) (mat b) (mat c) (mat d)) p)) (wMat r)) := rfl
theorem step6 : k0_pay6 u a b c d p r = addf u (mul (round (plus (stack (mat a) (mat b) (mat c) (mat d)) p)) (wMat r)) := rfl
theorem step7 : k0_pay7 u a b c d p r = addf u (mul (round (plus (stack (mat a) (mat b) (mat c) (mat d)) p)) (wMat r)) := rfl
theorem step45 : k0_pay45 u a b c d p r = addf u (mul (round (plus (stack (mat a) (mat b) (mat c) (mat d)) p)) (wMat r)) := rfl
theorem step49 : k0_pay49 u a b c d p r = addf u (mul (round (plus (stack (mat a) (mat b) (mat c) (mat d)) p)) (wMat r)) := rfl
theorem step52 : k0_pay52 u a b c d p r = addf u (mul (round (plus (stack (mat a) (mat b) (mat c) (mat d)) p)) (wMat r)) := rfl
theorem step55 : k0_pay55 u a b c d p r = addf u (mul (round (plus (stack (mat a) (mat b) (mat c) (mat d)) p)) (wMat r)) := rfl
theorem step56 : k0_pay56 u a b c d p r = addf u (mul (round (plus (stack (mat a) (mat b) (mat c) (mat d)) p)) (wMat r)) := rfl
theorem step8 : k0_pay8 a = mat a := rfl
theorem step12 : k0_pay12 a = mat a := rfl
theorem step13 : k0_pay13 a = mat a := rfl
theorem step17 : k0_pay17 a = mat a := rfl
theorem step18 : k0_pay18 a = mat a := rfl
theorem step19 : k0_pay19 a = mat a := rfl
theorem step23 : k0_pay23 a = mat a := rfl
theorem step24 : k0_pay24 a = mat a := rfl
theorem step25 : k0_pay25 a = mat a := rfl
theorem step26 : k0_pay26 a = mat a := rfl
theorem step57 : k0_pay57 a = mat a := rfl
theorem step61 : k0_pay61 a = mat a := rfl
theorem step62 : k0_pay62 a = mat a := rfl
theorem step10 : k0_pay10 u A b c d p r = addf u (mul (round (plus (stack A (mat b) (mat c) (mat d)) p)) (wMat r)) := rfl
theorem step11 : k0_pay11 u A b c d p r = addf u (mul (round (plus (stack A (mat b) (mat c) (mat d)) p)) (wMat r)) := rfl
theorem step59 : k0_pay59 u A b c d p r = addf u (mul (round (plus (stack A (mat b) (mat c) (mat d)) p)) (wMat r)) := rfl
theorem step60 : k0_pay60 u A b c d p r = addf u (mul (round (plus (stack A (mat b) (mat c) (mat d)) p)) (wMat r)) := rfl
theorem step15 : k0_pay15 u A B c d p r = addf u (mul (round (plus (stack A B (mat c) (mat d)) p)) (wMat r)) := rfl
theorem step16 : k0_pay16 u A B c d p r = addf u (mul (round (plus (stack A B (mat c) (mat d)) p)) (wMat r)) := rfl
theorem step21 : k0_pay21 u A B C d p r = addf u (mul (round (plus (stack A B C (mat d)) p)) (wMat r)) := rfl
theorem step22 : k0_pay22 u A B C d p r = addf u (mul (round (plus (stack A B C (mat d)) p)) (wMat r)) := rfl
theorem step28 : k0_pay28 u A B C D p r = addf u (mul (round (plus (stack A B C D) p)) (wMat r)) := rfl
theorem step29 : k0_pay29 u A B C D p r = addf u (mul (round (plus (stack A B C D) p)) (wMat r)) := rfl
theorem step30 : k0_pay30 a b c d = (stack (mat a) (mat b) (mat c) (mat d)) := rfl
theorem step33 : k0_pay33 a b c d = (stack (mat a) (mat b) (mat c) (mat d)) := rfl
theorem step37 : k0_pay37 a b c d = (stack (mat a) (mat b) (mat c) (mat d)) := rfl
theorem step41 : k0_pay41 a b c d = (stack (mat a) (mat b) (mat c) (mat d)) := rfl
theorem step31 : k0_pay31 u y p r = addf u (mul (round (plus y p)) (wMat r)) := rfl
theorem step32 : k0_pay32 u y p r = addf u (mul (round (plus y p)) (wMat r)) := rfl
theorem step36 : k0_pay36 u y p r = addf u (mul (round (plus y p)) (wMat r)) := rfl
theorem step40 : k0_pay40 u y p r = addf u (mul (round (plus y p)) (wMat r)) := rfl
theorem step43 : k0_pay43 u y p r = addf u (mul (round (plus y p)) (wMat r)) := rfl
theorem step34 : k0_pay34 a b c d p = round (plus (stack (mat a) (mat b) (mat c) (mat d)) p) := rfl
theorem step38 : k0_pay38 a b c d p = round (plus (stack (mat a) (mat b) (mat c) (mat d)) p) := rfl
theorem step50 : k0_pay50 a b c d p = round (plus (stack (mat a) (mat b) (mat c) (mat d)) p) := rfl
theorem step46 : k0_pay46 a b c d p = plus (stack (mat a) (mat b) (mat c) (mat d)) p := rfl
theorem step35 : k0_pay35 u l r = addf u (mul l (wMat r)) := rfl
theorem step39 : k0_pay39 r = wMat r := rfl
theorem step42 : k0_pay42 u l R a b c d p r = addf (addf u (mul l R)) (mul (round (plus (stack (mat a) (mat b) (mat c) (mat d)) p)) (wMat r)) := rfl
theorem step47 : k0_pay47 u y r = addf u (mul (round y) (wMat r)) := rfl
theorem step53 : k0_pay53 u l r a b c d p' r' = addf (addf u (mul l (wMat r))) (mul (round (plus (stack (mat a) (mat b) (mat c) (mat d)) p')) (wMat r')) := rfl
theorem step63 : k0_pay63 u v A B c d p r p' r' r2 = last (addf u (mul (round (plus (stack A B (mat c) (mat d)) p)) (wMat r))) (addf v (mul (round (plus (stack A B (mat c) (mat d)) p')) (wMat r'))) r2 := rfl

end

section
variable (m : (ℓ : Loc nD τ sig) → Buf (Elt Ideal) ℓ) (c : Dev nD)

set_option maxHeartbeats 400000 in
theorem flushed (t : Fin cfg0.N) : (dats m 0 c).flushed 4 t = (cfg0.win 4).cut (grid0.coords t)
    (block (iblk m c 0 t) (iblk m c 1 t) (iblk m c 2 t) (iblk m c 3 t)) := by
  rw [Cert.CompressIdeal.Value.flushed4_A m c t]
  frame_out
  simp only [readAt_eq, step3, step4, step6, step7, step45, step49, step52, step55, step56, step8, step12, step13, step17, step18, step19, step23, step24, step25, step26, step57, step61, step62, step10, step11, step59, step60, step15, step16, step21, step22, step28, step29, step30, step33, step37, step41, step31, step32, step36, step40, step43, step34, step38, step50, step46, step35, step39, step42, step47, step53, step63]
  simp only [seqLoad_eq, peLoad_eq, wLoad_eq]
  unfold block outRows part
  simp only [List.foldl, term, lo, hi, Nat.reduceAdd]
  refine congrArg (fun v => (cfg0.win 4).cut (grid0.coords t) (k0_pay1 v _ _)) ?_
  refine congr (congrArg₂ last ?_ ?_) (w2Load_eq _)
  · rfl
  · rfl

end

end Cert.Proof.Compress

end
-- ==== Proof.CompressRows.lean ====
/-
  The compression's block read at an index.
-/
module

public import proofs.«01_k».proof.Proof.CompressBlock

@[expose] public section

set_option maxRecDepth 16384

noncomputable section

namespace Cert.Proof.Compress

open Idealize.ShloMosaic Idealize.ShloMosaic.TcCoe Idealize.SL.Sem Cert.CompressIdeal Cert.CompressIdeal.Gen
open Cert.Proof.Back

variable (x : Vec Ideal S4x2048x128 .f32) (pe : Vec Ideal S1x32x128 .f32) (w : Vec Ideal S1x32x128x128 .bf16)
  (w2 : Vec Ideal S1x128x128 .bf16)

theorem seqLoad_apply (b : Fin 4) (r : Fin 16) (i : Fin 128) (k : Fin 128) :
    seqLoad x b.val r.val (ix3 0 i k) = x (ix3 b ⟨16 * i.val + r.val, by omega⟩ k) :=
  dif_pos ⟨b.isLt, r.isLt⟩

theorem mat_apply (a : Vec Ideal S1x128x128 .f32) (i k : Fin 128) : mat a (ix2 i k) = a (ix3 0 i k) := by
  pointwise [mat]

theorem stack_apply (f : Fin 4 → FVec Ideal S128x128 .f32) (b : Fin 4) (i k : Fin 128) :
    stack (f 0) (f 1) (f 2) (f 3) (ix2 ⟨128 * b.val + i.val, by omega⟩ k) = f b (ix2 i k) := by
  have h := i.isLt
  match b with
  | ⟨0, _⟩ => pointwise [stack]
  | ⟨1, _⟩ => pointwise [stack]
  | ⟨2, _⟩ =>
    pointwise [stack]
    rw [dif_neg (by omega), dif_neg (by omega), dif_pos (by omega)]
    exact congrArg (f 2) (congrArg₂ ix2 (Fin.ext (by simp only; omega)) rfl)
  | ⟨3, _⟩ =>
    pointwise [stack]
    rw [dif_neg (by omega), dif_neg (by omega), dif_neg (by omega)]
    exact congrArg (f 3) (congrArg₂ ix2 (Fin.ext (by simp only; omega)) rfl)

theorem plus_apply (y : FVec Ideal S512x128 .f32) (p : Vec Ideal S1x1x128 .f32) (i : Fin 512) (k : Fin 128) :
    plus y p (ix2 i k) = y (ix2 i k) + p (ix3 0 0 k) := by
  pointwise [plus]

theorem wMat_apply (v : Vec Ideal S1x1x128x128 .bf16) (k l : Fin 128) : wMat v (ix2 k l) = v (ix4 0 0 k l) := by
  pointwise [wMat]

theorem mul_apply (y : FVec Ideal S512x128 .bf16) (v : FVec Ideal S128x128 .bf16) (i : Fin 512) (l : Fin 128) :
    mul y v (ix2 i l) = ∑ k : Fin 128, y (ix2 i k) * v (ix2 k l) := by
  pointwise [mul, dot_S512x128_S128x128_S512x128_1_0_0_1_n_n]

theorem peLoad_apply (q : Fin 32) (k : Fin 128) : peLoad pe q.val (ix3 0 0 k) = pe (ix3 0 q k) := dif_pos q.isLt
theorem wLoad_apply (q : Fin 32) (k l : Fin 128) : wLoad w q.val (ix4 0 0 k l) = w (ix4 0 q k l) := dif_pos q.isLt

theorem term_apply (r : Fin 16) (q : Fin 32) (b : Fin 4) (i : Fin 128) (l : Fin 128) :
    term x pe w r.val q.val (ix2 ⟨128 * b.val + i.val, by omega⟩ l)
      = ∑ k : Fin 128, (x (ix3 b ⟨16 * i.val + r.val, by omega⟩ k) + pe (ix3 0 q k)) * w (ix4 0 q k l) := by
  unfold term
  rw [mul_apply]
  refine Finset.sum_congr rfl fun k _ => congrArg₂ (· * ·) ?_ ((wMat_apply _ k l).trans (wLoad_apply w q k l))
  refine (plus_apply _ _ _ _).trans (congrArg₂ (· + ·) ?_ (peLoad_apply pe q k))
  exact (stack_apply (fun b => mat (seqLoad x b.val r.val)) b i k).trans ((mat_apply _ i k).trans (seqLoad_apply x b r i k))

theorem foldl_apply (t : ℕ → FVec Ideal S512x128 .f32) (z : S512x128.Idx) (u : FVec Ideal S512x128 .f32) (s : List ℕ) :
    List.foldl (fun a r => addf a (t r)) u s z = u z + (s.map fun r => t r z).sum := by
  induction s generalizing u with
  | nil => simp
  | cons r s ih => rw [List.foldl_cons, ih, List.map_cons, List.sum_cons, ← add_assoc]; rfl

theorem nil_apply (z : S512x128.Idx) : nil z = 0 := by
  unfold nil
  pointwise

theorem part_apply (g : ℕ → ℕ) (f : Fin 16 → Fin 32) (hf : ∀ r : Fin 16, g r.val = (f r).val) (b : Fin 4) (i : Fin 128) (l : Fin 128) :
    part x pe w g (ix2 ⟨128 * b.val + i.val, by omega⟩ l)
      = ∑ r : Fin 16, ∑ k : Fin 128, (x (ix3 b ⟨16 * i.val + r.val, by omega⟩ k) + pe (ix3 0 (f r) k)) * w (ix4 0 (f r) k l) := by
  refine (foldl_apply (fun r => term x pe w r (g r)) _ nil _).trans ?_
  rw [nil_apply, zero_add, Fin.sum_univ_def, show [0, 1, 2, 3, 4, 5, 6, 7, 8, 9, 10, 11, 12, 13, 14, 15] = (List.finRange 16).map Fin.val by decide,
    List.map_map]
  refine congrArg List.sum (congrArg (List.map · _) (funext fun r => ?_))
  show term x pe w r.val (g r.val) _ = _
  rw [hf r]
  exact term_apply x pe w r (f r) b i l

theorem roll_apply (v : FVec Ideal S512x128 .f32) (b : Fin 4) (i : Fin 127) (l : Fin 128) :
    dynamicRotate 0 511#32 none v rotates_S512x128_d0 (ix2 ⟨128 * b.val + i.val, by omega⟩ l)
      = v (ix2 ⟨128 * b.val + (i.val + 1), by omega⟩ l) := by
  pointwise
  refine congrArg v (congrArg₂ ix2 (Fin.ext ?_) rfl)
  simp only
  omega

theorem last_apply (u v : FVec Ideal S512x128 .f32) (r2 : Vec Ideal S1x128x128 .bf16) (b : Fin 4) (i : Fin 127) (l : Fin 128) :
    last u v r2 (ix2 ⟨128 * b.val + i.val, by omega⟩ l)
      = ∑ j : Fin 128, silu (u (ix2 ⟨128 * b.val + i.val, by omega⟩ j) + v (ix2 ⟨128 * b.val + (i.val + 1), by omega⟩ j))
          * r2 (ix3 0 j l) := by
  unfold last
  rw [mul_apply]
  refine Finset.sum_congr rfl fun j _ => congrArg₂ (· * ·) ?_ (by pointwise)
  exact congrArg silu (congrArg (fun e => u (ix2 ⟨128 * b.val + i.val, by omega⟩ j) + e) (roll_apply v b i j))

/-- The word the body compares with 127, of row `n` of the block: the row's place in its sequence. -/
theorem masked_word : ∀ n : Fin 512, IntOp.cmpi CmpIPredicate.slt
        (Scalar.select
          (IntOp.andi
            (IntOp.xori
              (IntOp.cmpi CmpIPredicate.slt
                (IntOp.remsi ArithUnit.vector (BitVec.ofNat 32 n.val)
                  (Scalar.select (Scalar.cmpi CmpIPredicate.eq 128#32 0#32) 1#32 128#32))
                0#32)
              (Scalar.cmpi CmpIPredicate.slt (Scalar.select (Scalar.cmpi CmpIPredicate.eq 128#32 0#32) 1#32 128#32)
                0#32))
            (IntOp.cmpi CmpIPredicate.ne
              (IntOp.remsi ArithUnit.vector (BitVec.ofNat 32 n.val)
                (Scalar.select (Scalar.cmpi CmpIPredicate.eq 128#32 0#32) 1#32 128#32))
              0#32))
          (IntOp.addi
            (IntOp.remsi ArithUnit.vector (BitVec.ofNat 32 n.val)
              (Scalar.select (Scalar.cmpi CmpIPredicate.eq 128#32 0#32) 1#32 128#32))
            (Scalar.select (Scalar.cmpi CmpIPredicate.eq 128#32 0#32) 1#32 128#32))
          (IntOp.remsi ArithUnit.vector (BitVec.ofNat 32 n.val)
            (Scalar.select (Scalar.cmpi CmpIPredicate.eq 128#32 0#32) 1#32 128#32)))
        127#32 = if n.val % 128 < 127 then 1#1 else 0#1 := by
  decide +kernel

/-- The stored rows: the last of each sequence is zero. -/
theorem masked_apply (u : FVec Ideal S512x128 .f32) (b : Fin 4) (i : Fin 128) (l : Fin 128) :
    k0_pay1 u (iota .tc S512x128 32 [0] iota_S512x128_d0_w32) 128#32 (ix3 b i l)
      = if i.val < 127 then u (ix2 ⟨128 * b.val + i.val, by omega⟩ l) else 0 := by
  pointwise [k0_pay1]
  rw [show _ = _ from masked_word ⟨b.val * 128 + i.val, by omega⟩]
  have e : (b.val * 128 + i.val) % 128 = i.val := by omega
  simp only [e]
  by_cases h : i.val < 127
  · rw [if_pos h, if_pos h]
    exact congrArg u (congrArg₂ ix2 (Fin.ext (by simp only; omega)) rfl)
  · rw [if_neg h, if_neg h]
    rfl

/-- The stored block at an index: a compressed row, or the last row's zero. -/
theorem block_apply (b : Fin 4) (i : Fin 128) (l : Fin 128) :
    block x pe w w2 (ix3 b i l)
      = if h : i.val < 127 then ∑ j : Fin 128, silu (hidBoth (fun s k => x (ix3 b s k)) (fun q k => pe (ix3 0 q k))
          (fun q k j => w (ix4 0 q k j)) ⟨i.val, h⟩ j) * w2 (ix3 0 j l) else 0 := by
  refine (masked_apply _ b i l).trans ?_
  by_cases h : i.val < 127
  · rw [if_pos h, dif_pos h]
    refine (last_apply (part x pe w lo) (part x pe w hi) (w2Load w2) b ⟨i.val, h⟩ l).trans ?_
    refine Finset.sum_congr rfl fun j _ => congrArg₂ (· * ·) (congrArg silu ?_) rfl
    exact congrArg₂ (· + ·)
      (part_apply x pe w lo (fun r => ⟨r.val, by omega⟩) (fun r => rfl) b i j)
      (part_apply x pe w hi (fun r => ⟨16 + r.val, by omega⟩) (fun r => rfl) b ⟨i.val + 1, by omega⟩ j)
  · rw [if_neg h, dif_neg h]

end Cert.Proof.Compress

end
-- ==== Proof.CompressArray.lean ====
/-
  The array the compression leaves: sequence `4 t + b` is sequence `b` of block `t`; its row `i` is the compressed key of
  block `i` beside the compressed value, and its last row is zero.
-/
module

public import proofs.«01_k».proof.Proof.CompressRows
public import Idealize.ShloMosaic.Lib.Claim

@[expose] public section

set_option maxRecDepth 16384

noncomputable section

namespace Cert.Proof.Compress

open Idealize.ShloMosaic Idealize.ShloMosaic.TcCoe Idealize.SL.Sem Cert.CompressIdeal Cert.CompressIdeal.Gen
open Idealize.ShloMosaic.Pipeline (Dat)
open Cert.Proof.Back

variable (m : (ℓ : Loc nD τ sig) → Buf (Elt Ideal) ℓ) (c : Dev nD)

/-- Which block each window takes at a point: the sequences' block `t`, the weights' layer 1. -/
theorem index_seqs : ∀ t : Fin cfg0.N, win0_0.index t = ![t.val, 0, 0] ∧ win0_4.index t = ![t.val, 0, 0] :=
  (by decide +kernel : ∀ t : Fin grid0.N, win0_0.index t = ![t.val, 0, 0] ∧ win0_4.index t = ![t.val, 0, 0])

/-- Sequence `4 t + b`. -/
abbrev seq (t : Fin cfg0.N) (b : Fin 4) : Fin 16 := ⟨t.val * 4 + b.val, by have := t.isLt; have : cfg0.N = 4 := N_0; omega⟩

/-! What each window's block holds of its array. -/

theorem iblk_0 (t : Fin cfg0.N) (b : Fin 4) (s : Fin 2048) (k : Fin 128) :
    iblk m c 0 t (ix3 b s k) = V m c main_v1 (ix3 (seq t b) s ⟨k.val, by omega⟩) := by
  have e := (index_seqs t).1
  refine congrArg (V m c main_v1) (funext fun a => Fin.ext ?_)
  match a with
  | ⟨0, _⟩ => show win0_0.index t 0 * 4 + 1 * b.val = t.val * 4 + b.val; rw [e]; simp
  | ⟨1, _⟩ => show win0_0.index t 1 * 2048 + 1 * s.val = s.val; rw [e]; simp
  | ⟨2, _⟩ => show win0_0.index t 2 * 128 + 1 * k.val = k.val; rw [e]; simp

theorem iblk_1 (t : Fin cfg0.N) (q : Fin 32) (k : Fin 128) :
    iblk m c 1 t (ix3 0 q k) = V m c main_v2 (ix3 1 q k) := by
  refine congrArg (V m c main_v2) (funext fun a => Fin.ext ?_)
  match a with
  | ⟨0, _⟩ => rfl
  | ⟨1, _⟩ => show 0 * 32 + 1 * q.val = q.val; omega
  | ⟨2, _⟩ => show 0 * 128 + 1 * k.val = k.val; omega

theorem iblk_2 (t : Fin cfg0.N) (q : Fin 32) (k j : Fin 128) :
    iblk m c 2 t (ix4 0 q k j) = V m c main_v9 (ix4 1 q k j) := by
  refine congrArg (V m c main_v9) (funext fun a => Fin.ext ?_)
  match a with
  | ⟨0, _⟩ => rfl
  | ⟨1, _⟩ => show 0 * 32 + 1 * q.val = q.val; omega
  | ⟨2, _⟩ => show 0 * 128 + 1 * k.val = k.val; omega
  | ⟨3, _⟩ => show 0 * 128 + 1 * j.val = j.val; omega

theorem iblk_3 (t : Fin cfg0.N) (j l : Fin 128) :
    iblk m c 3 t (ix3 0 j l) = V m c main_v15 (ix3 1 j l) := by
  refine congrArg (V m c main_v15) (funext fun a => Fin.ext ?_)
  match a with
  | ⟨0, _⟩ => rfl
  | ⟨1, _⟩ => show 0 * 128 + 1 * j.val = j.val; omega
  | ⟨2, _⟩ => show 0 * 128 + 1 * l.val = l.val; omega

/-! What the arrays hold when the call begins: keys beside values, and their weights down a diagonal. -/

/-- The key, value and gate columns with zeros after them. -/
def colsVec (x : Vec Ideal S16x2048x384 .f32) (g : Vec Ideal S16x2048x12 .f32) : Vec Ideal S16x2048x512 .f32 :=
  concatenate S16x2048x512 2 [⟨S16x2048x384, x⟩, ⟨S16x2048x12, g⟩,
    ⟨S16x2048x116, broadcastInDim S16x2048x116 ![] bcast_S_S16x2048x116 (constant (F := Ideal) S_ .f32 0x00000000#32 : Vec Ideal S_ .f32)⟩]
    concatenates_S16x2048x384_S16x2048x12_S16x2048x116_S16x2048x512_d2

theorem colsVec_apply (x : Vec Ideal S16x2048x384 .f32) (g : Vec Ideal S16x2048x12 .f32) (b : Fin 16) (s : Fin 2048) (k : Fin 128) :
    colsVec x g (ix3 b s ⟨k.val, by omega⟩)
      = join (fun k => x (ix3 b s ⟨k.val, by omega⟩)) (fun k => x (ix3 b s ⟨64 + k.val, by omega⟩)) k := by
  have hk : k.val < 384 := by omega
  have e : colsVec x g (ix3 b s ⟨k.val, by omega⟩) = x (ix3 b s ⟨k.val, hk⟩) := by
    pointwise [colsVec]
    rw [dif_pos hk]
  rw [e]
  unfold join
  split
  · rfl
  · exact congrArg (fun k => x (ix3 b s k)) (Fin.ext (by simp only; omega))

/-- The position rows of keys and values. -/
def posVec (p q : Vec Ideal S4x32x64 .f32) : Vec Ideal S4x32x128 .f32 :=
  concatenate S4x32x128 2 [⟨S4x32x64, p⟩, ⟨S4x32x64, q⟩] concatenates_S4x32x64_S4x32x64_S4x32x128_d2

theorem posVec_apply (p q : Vec Ideal S4x32x64 .f32) (r : Fin 32) (k : Fin 128) :
    posVec p q (ix3 1 r k) = join (fun k => p (ix3 1 r k)) (fun k => q (ix3 1 r k)) k := by
  unfold join
  pointwise [posVec]

/-- The first weights of keys and values down a diagonal, a matrix for each row of a block. -/
def firstVec (v w : Vec Ideal S4x2048x64 .f32) : Vec Ideal S4x32x128x128 .bf16 :=
  truncf (F := Ideal) (s := S4x32x128x128) (φ := .f32) .bf16 (concatenate S4x32x128x128 2
    [⟨S4x32x64x128, concatenate S4x32x64x128 3 [⟨S4x32x64x64, shapeCast S4x32x64x64 v shapeCasts_S4x2048x64_S4x32x64x64⟩,
      ⟨S4x32x64x64, broadcastInDim S4x32x64x64 ![] bcast_S_S4x32x64x64 (constant (F := Ideal) S_ .f32 0x00000000#32 : Vec Ideal S_ .f32)⟩]
      concatenates_S4x32x64x64_S4x32x64x64_S4x32x64x128_d3⟩,
     ⟨S4x32x64x128, concatenate S4x32x64x128 3
      [⟨S4x32x64x64, broadcastInDim S4x32x64x64 ![] bcast_S_S4x32x64x64 (constant (F := Ideal) S_ .f32 0x00000000#32 : Vec Ideal S_ .f32)⟩,
       ⟨S4x32x64x64, shapeCast S4x32x64x64 w shapeCasts_S4x2048x64_S4x32x64x64⟩]
      concatenates_S4x32x64x64_S4x32x64x64_S4x32x64x128_d3⟩]
    concatenates_S4x32x64x128_S4x32x64x128_S4x32x128x128_d2 : Vec Ideal S4x32x128x128 .f32) bitsLt_bf16_f32

theorem firstVec_apply (v w : Vec Ideal S4x2048x64 .f32) (r : Fin 32) (k j : Fin 128) :
    firstVec v w (ix4 1 r k j) = diag (fun k j => v (ix3 1 ⟨64 * r.val + k.val, by omega⟩ j))
      (fun k j => w (ix3 1 ⟨64 * r.val + k.val, by omega⟩ j)) k j := by
  unfold diag
  pointwise [firstVec]
  simp only [Nat.mul_comm r.val 64]

/-- The second weights of keys and values down a diagonal. -/
def secondVec (v w : Vec Ideal S4x64x64 .f32) : Vec Ideal S4x128x128 .bf16 :=
  truncf (F := Ideal) (s := S4x128x128) (φ := .f32) .bf16 (concatenate S4x128x128 1
    [⟨S4x64x128, concatenate S4x64x128 2 [⟨S4x64x64, v⟩,
      ⟨S4x64x64, broadcastInDim S4x64x64 ![] bcast_S_S4x64x64 (constant (F := Ideal) S_ .f32 0x00000000#32 : Vec Ideal S_ .f32)⟩]
      concatenates_S4x64x64_S4x64x64_S4x64x128_d2⟩,
     ⟨S4x64x128, concatenate S4x64x128 2
      [⟨S4x64x64, broadcastInDim S4x64x64 ![] bcast_S_S4x64x64 (constant (F := Ideal) S_ .f32 0x00000000#32 : Vec Ideal S_ .f32)⟩, ⟨S4x64x64, w⟩]
      concatenates_S4x64x64_S4x64x64_S4x64x128_d2⟩]
    concatenates_S4x64x128_S4x64x128_S4x128x128_d1 : Vec Ideal S4x128x128 .f32) bitsLt_bf16_f32

theorem secondVec_apply (v w : Vec Ideal S4x64x64 .f32) (j l : Fin 128) :
    secondVec v w (ix3 1 j l) = diag (fun j l => v (ix3 1 j l)) (fun j l => w (ix3 1 j l)) j l := by
  unfold diag
  pointwise [secondVec]

theorem entry_v1 : V m c main_v1 = colsVec (m ((c : Thread nD τ).loc main_arg0)) (m ((c : Thread nD τ).loc main_arg1)) := rfl
theorem entry_v2 : V m c main_v2 = posVec (m ((c : Thread nD τ).loc main_arg2)) (m ((c : Thread nD τ).loc main_arg3)) := rfl
theorem entry_v9 : V m c main_v9 = firstVec (m ((c : Thread nD τ).loc main_arg4)) (m ((c : Thread nD τ).loc main_arg6)) := rfl
theorem entry_v15 : V m c main_v15 = secondVec (m ((c : Thread nD τ).loc main_arg5)) (m ((c : Thread nD τ).loc main_arg7)) := rfl

/-- Row `i` of sequence `b`: the compressed key beside the compressed value. -/
def resultAt (b : Fin 16) (i l : Fin 128) : EReal :=
  if h : i.val < 127 then join
    (cmp (fun s k => m ((c : Thread nD τ).loc main_arg0) (ix3 b s ⟨k.val, by omega⟩)) (fun q k => m ((c : Thread nD τ).loc main_arg2) (ix3 1 q k))
      (fun u j => m ((c : Thread nD τ).loc main_arg4) (ix3 1 u j)) (fun j l => m ((c : Thread nD τ).loc main_arg5) (ix3 1 j l)) ⟨i.val, h⟩)
    (cmp (fun s k => m ((c : Thread nD τ).loc main_arg0) (ix3 b s ⟨64 + k.val, by omega⟩)) (fun q k => m ((c : Thread nD τ).loc main_arg3) (ix3 1 q k))
      (fun u j => m ((c : Thread nD τ).loc main_arg6) (ix3 1 u j)) (fun j l => m ((c : Thread nD τ).loc main_arg7) (ix3 1 j l)) ⟨i.val, h⟩) l
  else 0

/-- The whole result. -/
def result (z : S16x128x128.Idx) : EReal := resultAt m c (z 0) (z 1) (z 2)

/-- Point `t`'s block at an index. -/
theorem block_eq (t : Fin cfg0.N) (b : Fin 4) (i l : Fin 128) :
    block (iblk m c 0 t) (iblk m c 1 t) (iblk m c 2 t) (iblk m c 3 t) (ix3 b i l) = resultAt m c (seq t b) i l := by
  refine (block_apply _ _ _ _ b i l).trans ?_
  unfold resultAt
  by_cases h : i.val < 127
  · rw [dif_pos h, dif_pos h]
    have h0 : (fun s k => iblk m c 0 t (ix3 b s k)) = fun s => join
        (fun k => m ((c : Thread nD τ).loc main_arg0) (ix3 (seq t b) s ⟨k.val, by omega⟩))
        (fun k => m ((c : Thread nD τ).loc main_arg0) (ix3 (seq t b) s ⟨64 + k.val, by omega⟩)) :=
      funext fun s => funext fun k => (iblk_0 m c t b s k).trans ((congrFun (entry_v1 m c) _).trans (colsVec_apply _ _ _ s k))
    have h1 : (fun q k => iblk m c 1 t (ix3 0 q k)) = fun q => join
        (fun k => m ((c : Thread nD τ).loc main_arg2) (ix3 1 q k)) (fun k => m ((c : Thread nD τ).loc main_arg3) (ix3 1 q k)) :=
      funext fun q => funext fun k => (iblk_1 m c t q k).trans ((congrFun (entry_v2 m c) _).trans (posVec_apply _ _ q k))
    have h2 : (fun q k j => iblk m c 2 t (ix4 0 q k j)) = fun q : Fin 32 => diag
        (fun k j => m ((c : Thread nD τ).loc main_arg4) (ix3 1 ⟨64 * q.val + k.val, by omega⟩ j))
        (fun k j => m ((c : Thread nD τ).loc main_arg6) (ix3 1 ⟨64 * q.val + k.val, by omega⟩ j)) :=
      funext fun q => funext fun k => funext fun j =>
        (iblk_2 m c t q k j).trans ((congrFun (entry_v9 m c) _).trans (firstVec_apply _ _ q k j))
    have h3 : ∀ j l, iblk m c 3 t (ix3 0 j l) = diag
        (fun j l => m ((c : Thread nD τ).loc main_arg5) (ix3 1 j l)) (fun j l => m ((c : Thread nD τ).loc main_arg7) (ix3 1 j l)) j l :=
      fun j l => (iblk_3 m c t j l).trans ((congrFun (entry_v15 m c) _).trans (secondVec_apply _ _ j l))
    refine Eq.trans ?_ (cmpBoth_eq _ _ _ _ l)
    refine Finset.sum_congr rfl fun j _ => congrArg₂ (· * ·) (congrArg silu ?_) (h3 j l)
    refine (congrArg₂ (fun f g => hidBoth f g _ _ j) h0 h1).trans ?_
    refine (congrArg (fun f => hidBoth _ _ f _ j) h2).trans ?_
    exact hidBoth_eq _ _ _ _ (fun u j => m ((c : Thread nD τ).loc main_arg4) (ix3 1 u j))
      (fun u j => m ((c : Thread nD τ).loc main_arg6) (ix3 1 u j)) ⟨i.val, h⟩ j
  · rw [dif_neg h, dif_neg h]

/-- What point `t` writes back is block `t` of the whole result. -/
theorem flushed_eq (t : Fin cfg0.N) :
    (dats m 0 c).flushed 4 t = ((cfg0.win 4).blk t).view.read (Elt Ideal) (result m c) := by
  rw [flushed m c t]
  have key : ∀ z : S4x128x128.Idx, block (iblk m c 0 t) (iblk m c 1 t) (iblk m c 2 t) (iblk m c 3 t) z
      = result m c (ix3 (seq t (z 0)) (z 1) (z 2)) := by
    intro z
    have hz : z = ix3 (z 0) (z 1) (z 2) := by funext a; match a with | ⟨0, _⟩ => rfl | ⟨1, _⟩ => rfl | ⟨2, _⟩ => rfl
    rw [hz]
    exact block_eq m c t (z 0) (z 1) (z 2)
  funext z
  refine (key z).trans (congrArg (result m c) (funext fun a => Fin.ext ?_))
  have e := (index_seqs t).2
  match a with
  | ⟨0, _⟩ => show t.val * 4 + (z 0).val = win0_4.index t 0 * 4 + 1 * (z 0).val; rw [e]; simp
  | ⟨1, _⟩ => show (z 1).val = win0_4.index t 1 * 128 + 1 * (z 1).val; rw [e]; simp
  | ⟨2, _⟩ => show (z 2).val = win0_4.index t 2 * 128 + 1 * (z 2).val; rw [e]; simp

/-- Every row is in one block. -/
theorem cover (i : S16x128x128.Idx) :
    ∃ t : Fin cfg0.N, (cfg0.win 4).flush t = true ∧ i ∈ ((cfg0.win 4).blk t).view.set := by
  have h0 : (i 0).val < 16 := (i 0).isLt
  have h1 : (i 1).val < 128 := (i 1).isLt
  have h2 : (i 2).val < 128 := (i 2).isLt
  have hN : cfg0.N = 4 := N_0
  let t : Fin cfg0.N := ⟨(i 0).val / 4, by omega⟩
  have ht : t.val = (i 0).val / 4 := rfl
  have e := (index_seqs t).2
  refine ⟨t, flush0_4 t, ?_⟩
  show i ∈ ((View.whole main_v16).slice (win0_4.rect t)).set
  rw [View.set_slice_whole, Rect.mem_set_unit]
  intro a
  match a with
  | ⟨0, _⟩ =>
    show win0_4.index t 0 * 4 ≤ (i 0).val ∧ (i 0).val < win0_4.index t 0 * 4 + 4
    rw [e]; simp only [Matrix.cons_val_zero]; omega
  | ⟨1, _⟩ =>
    show win0_4.index t 1 * 128 ≤ (i 1).val ∧ (i 1).val < win0_4.index t 1 * 128 + 128
    rw [e]; simp only [Matrix.cons_val_one, Matrix.cons_val_zero]; omega
  | ⟨2, _⟩ =>
    show win0_4.index t 2 * 128 ≤ (i 2).val ∧ (i 2).val < win0_4.index t 2 * 128 + 128
    rw [e]; show 0 * 128 ≤ (i 2).val ∧ (i 2).val < 0 * 128 + 128; omega

/-- The array ends holding the whole result. -/
theorem final : (dats m 0 c).arrAt 4 cfg0.N = result m c :=
  (dats m 0 c).arrAt_eq_of_cover 4 (result m c) (fun t _ => flushed_eq m c t) cover

end Cert.Proof.Compress

end
-- ==== Proof.CompressRef.lean ====
/-
  The reference's compressed keys and values at an index: `cmp` of the block's rows, and one row of zeros at the end.
-/
module

public import proofs.«01_k».proof.Proof.Gen.CompressReferenceIdeal.Run
public import proofs.«01_k».proof.Proof.CompressMath

@[expose] public section

set_option maxRecDepth 16384

noncomputable section

namespace Cert.Proof.CompressRef

open Idealize.ShloMosaic Idealize.ShloMosaic.TcCoe Idealize.ShloMosaic.StableHlo Cert.CompressReferenceIdeal
open Cert.CompressReferenceIdeal.Value Cert.CompressReferenceIdeal.Gen Cert.Proof.Back Cert.Proof.Compress

variable (x : FVec Ideal S16x2048x64 .f32) (pe : FVec Ideal S4x32x64 .f32) (w : FVec Ideal S4x2048x64 .f32)
  (w2 : FVec Ideal S4x64x64 .f32)

/-- The table of rows: entry `32 c + q` is row `16 c + q`, never clamped. -/
theorem table : ∀ j : Fin 4064, min (lit0 j).toInt.toNat 2047 = 16 * (j.val / 32) + j.val % 32 := by
  decide +kernel

/-- Which row each block takes at each of its places. -/
def starts : IVec S127x32x1 32 :=
  broadcastInDim S127x32x1 ![0, 1] bcast_S127x32_S127x32x1_0_1 (select (constantI S127x32 1 0#1)
    (addi (fun i => lit0 (S127x32.rowMajor i)) (broadcastInDim S127x32 ![] bcast_S_S127x32 (constantI S_ 32 2048#32)))
    (fun i => lit0 (S127x32.rowMajor i)))

theorem starts_apply (c : Fin 127) (q : Fin 32) :
    starts (ix3 c q 0) = lit0 ⟨32 * c.val + q.val, by omega⟩ := by
  pointwise [starts]
  refine congrArg lit0 (Fin.ext ?_)
  refine (Shape.rowMajor_val_succ (n := 1) (d := ![127, 32]) (ix2 c q)).trans ?_
  rw [Shape.rowMajor_val_one]
  show c.val * 32 + q.val = 32 * c.val + q.val
  omega

/-- The rows of every block. -/
def taken : FVec Ideal S16x127x32x64 .f32 :=
  Host.gather gather_S16x2048x64_S127x32x1_S16x127x32x64_03_1_n_n_1_2_16164 x starts

theorem taken_apply (b : Fin 16) (c : Fin 127) (q : Fin 32) (k : Fin 64) :
    taken x (ix4 b c q k) = x (ix3 b ⟨16 * c.val + q.val, by omega⟩ k) := by
  unfold taken Host.gather
  congr 1
  funext a
  refine Fin.ext ?_
  show GatherDims.start _ _ _ a + GatherDims.batchCoord _ _ a + GatherDims.offCoord _ _ a = _
  rw [GatherDims.batchCoord_eq_zero _ _ _ (fun h => by simp [gather_S16x2048x64_S127x32x1_S16x127x32x64_03_1_n_n_1_2_16164] at h)]
  have h : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h with rfl | rfl | rfl
  · unfold GatherDims.start GatherDims.offCoord
    rw [dif_neg (by decide +kernel), dif_pos (by decide +kernel)]
    show 0 + 0 + b.val = b.val
    omega
  · rw [GatherDims.offCoord_eq_zero _ _ _ (fun h => ((GatherDims.mem_sKept _ _).mp h).1 (List.mem_singleton.mpr rfl))]
    unfold GatherDims.start
    rw [dif_pos (show (1 : Fin 3) ∈ gather_S16x2048x64_S127x32x1_S16x127x32x64_03_1_n_n_1_2_16164.startIndexMap from
      List.mem_singleton.mpr rfl)]
    have hsi : gather_S16x2048x64_S127x32x1_S16x127x32x64_03_1_n_n_1_2_16164.siIdx (ix4 b c q k)
        ⟨List.idxOf (1 : Fin 3) [1], List.idxOf_lt_length_iff.2 (List.mem_singleton.mpr rfl)⟩ = ix3 c q 0 := by
      funext e; refine Fin.ext ?_
      match e with
      | ⟨0, _⟩ => rfl
      | ⟨1, _⟩ => rfl
      | ⟨2, _⟩ => rfl
    refine (congrArg (fun e => min (starts e).toInt.toNat 2047) hsi).trans ?_
    simp only [starts_apply]
    refine (table _).trans ?_
    show 16 * ((32 * c.val + q.val) / 32) + (32 * c.val + q.val) % 32 = 16 * c.val + q.val
    omega
  · unfold GatherDims.start GatherDims.offCoord
    rw [dif_neg (by decide +kernel), dif_pos (by decide +kernel)]
    show 0 + 0 + k.val = k.val
    omega

/-- The blocks flattened, their position rows added. -/
def flat : FVec Ideal S16x127x2048 .f32 :=
  shapeCast _ (addf (taken x) (broadcastInDim S16x127x32x64 ![0, 1, 2, 3] bcast_S1x1x32x64_S16x127x32x64_0_1_2_3
    (broadcastInDim S1x1x32x64 ![2, 3] bcast_S32x64_S1x1x32x64_2_3
      (shapeCast S32x64 (extractStridedSlice S1x32x64 ![1, 0, 0] pe slices_S4x32x64_S1x32x64_1_0_0) shapeCasts_S1x32x64_S32x64))))
    shapeCasts_S16x127x32x64_S16x127x2048

theorem flat_apply (b : Fin 16) (c : Fin 127) (u : Fin 2048) :
    flat x pe (ix3 b c u) = x (ix3 b ⟨16 * c.val + u.val / 64, by omega⟩ ⟨u.val % 64, by omega⟩)
      + pe (ix3 1 ⟨u.val / 64, by omega⟩ ⟨u.val % 64, by omega⟩) := by
  pointwise [flat, taken_apply]

/-- The hidden units. -/
def hidden : FVec Ideal S16x127x64 .f32 :=
  Host.dotGeneral dot_S16x127x2048_S2048x64_S16x127x64_2_0_01_1_n_n none (flat x pe)
    (shapeCast S2048x64 (extractStridedSlice S1x2048x64 ![1, 0, 0] w slices_S4x2048x64_S1x2048x64_1_0_0)
      shapeCasts_S1x2048x64_S2048x64)

theorem hidden_apply (b : Fin 16) (c : Fin 127) (j : Fin 64) :
    hidden x pe w (ix3 b c j)
      = hid (fun s k => x (ix3 b s k)) (fun q k => pe (ix3 1 q k)) (fun u j => w (ix3 1 u j)) c j := by
  rw [← hid_flat]
  pointwise [hidden, dot_S16x127x2048_S2048x64_S16x127x64_2_0_01_1_n_n, flat_apply]

/-- The compressed rows. -/
def rows : FVec Ideal S16x127x64 .f32 :=
  Host.dotGeneral dot_S16x127x64_S64x64_S16x127x64_2_0_01_1_n_n none
    (mulf (hidden x pe w) (Host.divf (broadcastInDim S16x127x64 ![] bcast_S_S16x127x64 (constant S_ .f32 0x3F800000#32))
      (addf (broadcastInDim S16x127x64 ![] bcast_S_S16x127x64 (constant S_ .f32 0x3F800000#32))
        (Host.exp (Host.negf (hidden x pe w))))))
    (shapeCast S64x64 (extractStridedSlice S1x64x64 ![1, 0, 0] w2 slices_S4x64x64_S1x64x64_1_0_0) shapeCasts_S1x64x64_S64x64)

theorem rows_apply (b : Fin 16) (c : Fin 127) (l : Fin 64) :
    rows x pe w w2 (ix3 b c l)
      = cmp (fun s k => x (ix3 b s k)) (fun q k => pe (ix3 1 q k)) (fun u j => w (ix3 1 u j)) (fun j l => w2 (ix3 1 j l)) c l := by
  pointwise [rows, dot_S16x127x64_S64x64_S16x127x64_2_0_01_1_n_n, hidden_apply]
  rfl

/-- Keys and values side by side, one row of zeros after the last. -/
def padded (u v : FVec Ideal S16x127x64 .f32) : FVec Ideal S16x128x128 .f32 :=
  pad S16x128x128 ![0, 0, 0] ![0, 1, 0] ![0, 0, 0] (concatenate S16x127x128 2 [⟨S16x127x64, u⟩, ⟨S16x127x64, v⟩]
    concatenates_S16x127x64_S16x127x64_S16x127x128_d2) (sitofp .f32 (constantI S_ 32 0#32))
    pads_S16x127x128_S16x128x128_000_010_000 h_S_

theorem padded_apply (u v : FVec Ideal S16x127x64 .f32) (b : Fin 16) (i l : Fin 128) :
    padded u v (ix3 b i l) = if h : i.val < 127 then join (fun l => u (ix3 b ⟨i.val, h⟩ l)) (fun l => v (ix3 b ⟨i.val, h⟩ l)) l
      else 0 := by
  have zero : FloatOps.sitofp (F := Ideal) .f32 0#32 = (0 : EReal) := by
    show (((0#32 : BitVec 32).toInt : ℝ) : EReal) = 0
    simp
  unfold join
  pointwise [padded, zero]

/-- The reference's result. -/
theorem res_eq (m : (ℓ : Loc nD τ sig) → Buf (Elt Ideal) ℓ) (c : Dev nD) : res_main_v43 m c = padded
    (rows (extractStridedSlice S16x2048x64 ![0, 0, 0] (m ((c.tc : Thread nD τ).loc main_arg0)) slices_S16x2048x384_S16x2048x64_0_0_0)
      (m ((c.tc : Thread nD τ).loc main_arg2)) (m ((c.tc : Thread nD τ).loc main_arg4)) (m ((c.tc : Thread nD τ).loc main_arg5)))
    (rows (extractStridedSlice S16x2048x64 ![0, 0, 64] (m ((c.tc : Thread nD τ).loc main_arg0)) slices_S16x2048x384_S16x2048x64_0_0_64)
      (m ((c.tc : Thread nD τ).loc main_arg3)) (m ((c.tc : Thread nD τ).loc main_arg6)) (m ((c.tc : Thread nD τ).loc main_arg7))) := rfl

end Cert.Proof.CompressRef

end
-- ==== Proof.CompressClaim.lean ====
/-
  The claims about the compression: the two programs end with the same compressed keys and values.
-/
module

public import proofs.«01_k».proof.Defs
public import proofs.«01_k».proof.Proof.Gen.Compress.Frame
public import proofs.«01_k».proof.Proof.CompressArray
public import proofs.«01_k».proof.Proof.CompressRef
public import Idealize.ShloMosaic.Lib.Quiescent

@[expose] public section

set_option maxRecDepth 16384

noncomputable section

namespace Cert.Proof.Compress

open Idealize.ShloMosaic Idealize.ShloMosaic.TcCoe Idealize.SL.Sem

theorem frame_k : Cert.quiescent_Compress := fun m ρ _ => Cert.Compress.Gen.frame m ρ
theorem frame_ki : Cert.quiescent_CompressIdeal := fun m ρ _ => Cert.CompressIdeal.Gen.frame m ρ
/-- The reference is host code: its run leaves the arguments, and it has no semaphore. -/
theorem frame_r : Cert.quiescent_CompressReferenceIdeal := fun m ρ _ =>
  (θ_run Cert.CompressReferenceIdeal.defs _ _).mono (fun r h => ⟨fun c => (h c).2,
      Idealize.ShloMosaic.sem_eq_zero_of_no_sems (by decide) r.2⟩)
    (Cert.CompressReferenceIdeal.Value.run (F := Ideal) m ρ)

/-- An index of a rank-three array is its three coordinates. -/
theorem eta {n p q : ℕ} (z : (Shape.mk 3 ![n, p, q]).Idx) : z = ix3 (z 0) (z 1) (z 2) := by
  funext a
  match a with
  | ⟨0, _⟩ => rfl
  | ⟨1, _⟩ => rfl
  | ⟨2, _⟩ => rfl

/-- From memories that agree on the arguments, the kernel's array is the reference's. -/
theorem algebraic : Cert.algebraic_CompressIdeal_CompressReferenceIdeal := by
  intro m g m' g' _ hargs
  refine ⟨fun c => result m c, ?_, ?_⟩
  · refine (θ_run Cert.CompressIdeal.defs _ _).mono (fun r h c => ?_) (Cert.CompressIdeal.Value.run_blocks (F := Ideal) m g)
    obtain ⟨ha, hrest⟩ := h c
    exact ⟨ha.trans (final m c), hrest⟩
  · refine (θ_run Cert.CompressReferenceIdeal.defs _ _).mono (fun r h c => ?_) (Cert.CompressReferenceIdeal.Value.run (F := Ideal) m' g')
    obtain ⟨ha, hrest⟩ := h c
    obtain ⟨e0, -, e2, e3, e4, e5, e6, e7⟩ := hargs c
    refine ⟨ha.trans ?_, hrest⟩
    rw [CompressRef.res_eq]
    funext z
    refine (congrArg _ (eta z)).trans ((CompressRef.padded_apply _ _ (z 0) (z 1) (z 2)).trans ?_)
    show _ = resultAt m c (z 0) (z 1) (z 2)
    unfold resultAt
    by_cases h : (z 1).val < 127
    · rw [dif_pos h, dif_pos h]
      refine congrArg₂ (fun f g => join f g (z 2)) (funext fun l => (CompressRef.rows_apply _ _ _ _ _ _ l).trans ?_)
        (funext fun l => (CompressRef.rows_apply _ _ _ _ _ _ l).trans ?_)
      · rw [e0, e2, e4, e5]
        refine congrArg (fun x => cmp x _ _ _ _ l) (funext fun s => funext fun k =>
          congrArg (m ((c : Thread Cert.CompressIdeal.nD Cert.CompressIdeal.τ).loc Cert.CompressIdeal.main_arg0)) (funext fun a => Fin.ext ?_))
        match a with
        | ⟨0, _⟩ => show 0 + (z 0).val = (z 0).val; omega
        | ⟨1, _⟩ => show 0 + s.val = s.val; omega
        | ⟨2, _⟩ => show 0 + k.val = k.val; omega
      · rw [e0, e3, e6, e7]
        refine congrArg (fun x => cmp x _ _ _ _ l) (funext fun s => funext fun k =>
          congrArg (m ((c : Thread Cert.CompressIdeal.nD Cert.CompressIdeal.τ).loc Cert.CompressIdeal.main_arg0)) (funext fun a => Fin.ext ?_))
        match a with
        | ⟨0, _⟩ => show 0 + (z 0).val = (z 0).val; omega
        | ⟨1, _⟩ => show 0 + s.val = s.val; omega
        | ⟨2, _⟩ => rfl
    · rw [dif_neg h, dif_neg h]

end Cert.Proof.Compress

end
-- ==== Proof.lean ====
module

public import proofs.«01_k».proof.Defs
public import proofs.«01_k».proof.Proof.Gen.Back
public import proofs.«01_k».proof.Proof.Gen.Back.Skeleton
public import proofs.«01_k».proof.Proof.Gen.Back.Launch
public import proofs.«01_k».proof.Proof.Gen.Back.Points
public import proofs.«01_k».proof.Proof.Gen.Back.Frame
public import proofs.«01_k».proof.Proof.Gen.BackIdeal
public import proofs.«01_k».proof.Proof.Gen.BackIdeal.Skeleton
public import proofs.«01_k».proof.Proof.Gen.BackIdeal.Launch
public import proofs.«01_k».proof.Proof.Gen.BackIdeal.Points
public import proofs.«01_k».proof.Proof.Gen.BackIdeal.Frame
public import proofs.«01_k».proof.Proof.Gen.BackReferenceIdeal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Front
public import proofs.«01_k».proof.Proof.Gen.Front.Skeleton
public import proofs.«01_k».proof.Proof.Gen.Front.Launch
public import proofs.«01_k».proof.Proof.Gen.Front.Points
public import proofs.«01_k».proof.Proof.Gen.Front.Frame
public import proofs.«01_k».proof.Proof.Gen.FrontIdeal
public import proofs.«01_k».proof.Proof.Gen.FrontIdeal.Skeleton
public import proofs.«01_k».proof.Proof.Gen.FrontIdeal.Launch
public import proofs.«01_k».proof.Proof.Gen.FrontIdeal.Points
public import proofs.«01_k».proof.Proof.Gen.FrontIdeal.Frame
public import proofs.«01_k».proof.Proof.Gen.FrontReferenceIdeal
public import proofs.«01_k».proof.Proof.Gen.BackIdeal.Value
public import proofs.«01_k».proof.Proof.Gen.BackReferenceIdeal.Run
public import proofs.«01_k».proof.Proof.Gen.FrontIdeal.Value
public import proofs.«01_k».proof.Proof.Gen.FrontReferenceIdeal.Run
public import proofs.«01_k».proof.Proof.Gen.CompressIdeal.Value
public import proofs.«01_k».proof.Proof.Gen.CompressReferenceIdeal.Run
public import proofs.«01_k».proof.Proof.BackClaim
public import proofs.«01_k».proof.Proof.FrontClaim
public import proofs.«01_k».proof.Proof.CompressClaim
public import Idealize.ShloMosaic.Adequacy
public import Idealize.ShloMosaic.Init

@[expose] public section

noncomputable section

namespace Cert.Proof

open Idealize.ShloMosaic Idealize.SL.Sem Cert.Back

theorem claim : Cert.Claim := ⟨Cert.Back.Gen.facts, Cert.BackIdeal.Gen.facts, Cert.BackReferenceIdeal.Gen.facts, Cert.Kernel.Gen.facts, Cert.KernelIdeal.Gen.facts, Cert.Front.Gen.facts, Cert.FrontIdeal.Gen.facts, Cert.FrontReferenceIdeal.Gen.facts,
  Cert.Compress.Gen.facts, Cert.CompressIdeal.Gen.facts, Cert.CompressReferenceIdeal.Gen.facts,
  Back.frame_k, Back.frame_ki, Back.frame_r,
  fun m ρ _ => Cert.Kernel.Gen.frame m ρ, fun m ρ _ => Cert.KernelIdeal.Gen.frame m ρ,
  Front.frame_k, Front.frame_ki, Front.frame_r, Compress.frame_k, Compress.frame_ki, Compress.frame_r,
  trivial, Back.algebraic, trivial, trivial, Front.algebraic, trivial, Compress.algebraic⟩

end Cert.Proof

end
